-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_four_full_sequences_of_finite_numbers [hPre_four_full_sequences_of_finite_numbers : Cert.Pre_four_full_sequences_of_finite_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_four_full_sequences_of_finite_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_full_sequences_of_finite_numbers [hPre_four_full_sequences_of_finite_numbers : Cert.Pre_four_full_sequences_of_finite_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_four_full_sequences_of_finite_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_four_full_sequences_of_finite_numbers [hKernelIdeal : Cert.KernelIdeal.Facts] [hPre_four_full_sequences_of_finite_numbers : Cert.Pre_four_full_sequences_of_finite_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_four_full_sequences_of_finite_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_four_full_sequences_of_finite_numbers [hReferenceIdeal : Cert.ReferenceIdeal.Facts] [hPre_four_full_sequences_of_finite_numbers : Cert.Pre_four_full_sequences_of_finite_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_full_sequences_of_finite_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_four_full_sequences_of_finite_numbers [hKernelIdeal : Cert.KernelIdeal.Facts] [hReferenceIdeal : Cert.ReferenceIdeal.Facts] [hPre_four_full_sequences_of_finite_numbers : Cert.Pre_four_full_sequences_of_finite_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_four_full_sequences_of_finite_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_four_full_sequences_of_finite_numbers : Cert.Pre_four_full_sequences_of_finite_numbers.Facts),
    quiescent_Kernel (hKernel := hKernel)
    ∧ quiescent_KernelIdeal (hKernelIdeal := hKernelIdeal)
    ∧ quiescent_KernelIdeal_pre_four_full_sequences_of_finite_numbers (hKernelIdeal := hKernelIdeal) (hPre_four_full_sequences_of_finite_numbers := hPre_four_full_sequences_of_finite_numbers)
    ∧ quiescent_ReferenceIdeal (hReferenceIdeal := hReferenceIdeal)
    ∧ quiescent_ReferenceIdeal_pre_four_full_sequences_of_finite_numbers (hReferenceIdeal := hReferenceIdeal) (hPre_four_full_sequences_of_finite_numbers := hPre_four_full_sequences_of_finite_numbers)
    ∧ preserves_Kernel_KernelIdeal
    ∧ algebraic_KernelIdeal_ReferenceIdeal_pre_four_full_sequences_of_finite_numbers (hKernelIdeal := hKernelIdeal) (hReferenceIdeal := hReferenceIdeal) (hPre_four_full_sequences_of_finite_numbers := hPre_four_full_sequences_of_finite_numbers)
-- ==== Pre_four_full_sequences_of_finite_numbers.lean ====
abbrev S4096x1536 : Shape := ⟨2, ![4096, 1536]⟩
abbrev S4096x2048 : Shape := ⟨2, ![4096, 2048]⟩
abbrev S4 : Shape := ⟨1, ![4]⟩
abbrev S1536x4096 : Shape := ⟨2, ![1536, 4096]⟩
abbrev S2048x128 : Shape := ⟨2, ![2048, 128]⟩
abbrev S128 : Shape := ⟨1, ![128]⟩
abbrev S2048x32 : Shape := ⟨2, ![2048, 32]⟩
abbrev S_ : Shape := ⟨0, ![]⟩

class Facts : Prop where
  bcast_S_S4 : S_.BroadcastsInDim S4 (![] : Fin 0 → Fin S4.rank)
  bcast_S_S4096x1536 : S_.BroadcastsInDim S4096x1536 (![] : Fin 0 → Fin S4096x1536.rank)
  bcast_S_S4096x2048 : S_.BroadcastsInDim S4096x2048 (![] : Fin 0 → Fin S4096x2048.rank)
  bcast_S_S1536x4096 : S_.BroadcastsInDim S1536x4096 (![] : Fin 0 → Fin S1536x4096.rank)
  bcast_S_S2048x128 : S_.BroadcastsInDim S2048x128 (![] : Fin 0 → Fin S2048x128.rank)
  bcast_S_S128 : S_.BroadcastsInDim S128 (![] : Fin 0 → Fin S128.rank)
  bcast_S_S2048x32 : S_.BroadcastsInDim S2048x32 (![] : Fin 0 → Fin S2048x32.rank)

variable [Facts]

def fn_part1 {F : FTy → Type} [FloatOps F] (main_arg7 : FVec F S2048x32 .f32) (main_v1 : IVec S4 1) (main_v4 : IVec S4096x1536 1) (main_v7 : IVec S4096x2048 1) (main_v10 : IVec S1536x4096 1) (main_v13 : IVec S2048x128 1) (main_v16 : IVec S128 1) (main_v17 : FVec F S128 .f32) : IVec S4 1 × IVec S4096x1536 1 × IVec S4096x2048 1 × IVec S1536x4096 1 × IVec S2048x128 1 × IVec S128 1 × IVec S128 1 × IVec S2048x32 1 :=
  let main_cst_4 : FVec F S_ .f32 := constant S_ .f32 0x7F7FFFFF#32
  let main_v18 : FVec F S128 .f32 := broadcastInDim S128 ![] bcast_S_S128 main_cst_4
  let main_v19 : IVec S128 1 := cmpf .ole main_v17 main_v18
  let main_v20 : FVec F S2048x32 .f32 := Host.absf main_arg7
  let main_cst_5 : FVec F S_ .f32 := constant S_ .f32 0x7F7FFFFF#32
  let main_v21 : FVec F S2048x32 .f32 := broadcastInDim S2048x32 ![] bcast_S_S2048x32 main_cst_5
  let main_v22 : IVec S2048x32 1 := cmpf .ole main_v20 main_v21
  (main_v1, main_v4, main_v7, main_v10, main_v13, main_v16, main_v19, main_v22)

def fn {F : FTy → Type} [FloatOps F] (main_arg0 : FVec F S4096x1536 .f32) (main_arg1 : FVec F S4096x2048 .f32) (main_arg2 : IVec S4 32) (main_arg3 : FVec F S1536x4096 .f32) (main_arg4 : FVec F S2048x128 .f32) (main_arg5 : FVec F S128 .f32) (main_arg6 : FVec F S128 .f32) (main_arg7 : FVec F S2048x32 .f32) : IVec S4 1 × IVec S4096x1536 1 × IVec S4096x2048 1 × IVec S1536x4096 1 × IVec S2048x128 1 × IVec S128 1 × IVec S128 1 × IVec S2048x32 1 :=
  let main_c : IVec S_ 32 := constantI S_ 32 1024#32
  let main_v0 : IVec S4 32 := broadcastInDim S4 ![] bcast_S_S4 main_c
  let main_v1 : IVec S4 1 := cmpi .eq main_arg2 main_v0
  let main_v2 : FVec F S4096x1536 .f32 := Host.absf main_arg0
  let main_cst : FVec F S_ .f32 := constant S_ .f32 0x7F7FFFFF#32
  let main_v3 : FVec F S4096x1536 .f32 := broadcastInDim S4096x1536 ![] bcast_S_S4096x1536 main_cst
  let main_v4 : IVec S4096x1536 1 := cmpf .ole main_v2 main_v3
  let main_v5 : FVec F S4096x2048 .f32 := Host.absf main_arg1
  let main_cst_0 : FVec F S_ .f32 := constant S_ .f32 0x7F7FFFFF#32
  let main_v6 : FVec F S4096x2048 .f32 := broadcastInDim S4096x2048 ![] bcast_S_S4096x2048 main_cst_0
  let main_v7 : IVec S4096x2048 1 := cmpf .ole main_v5 main_v6
  let main_v8 : FVec F S1536x4096 .f32 := Host.absf main_arg3
  let main_cst_1 : FVec F S_ .f32 := constant S_ .f32 0x7F7FFFFF#32
  let main_v9 : FVec F S1536x4096 .f32 := broadcastInDim S1536x4096 ![] bcast_S_S1536x4096 main_cst_1
  let main_v10 : IVec S1536x4096 1 := cmpf .ole main_v8 main_v9
  let main_v11 : FVec F S2048x128 .f32 := Host.absf main_arg4
  let main_cst_2 : FVec F S_ .f32 := constant S_ .f32 0x7F7FFFFF#32
  let main_v12 : FVec F S2048x128 .f32 := broadcastInDim S2048x128 ![] bcast_S_S2048x128 main_cst_2
  let main_v13 : IVec S2048x128 1 := cmpf .ole main_v11 main_v12
  let main_v14 : FVec F S128 .f32 := Host.absf main_arg5
  let main_cst_3 : FVec F S_ .f32 := constant S_ .f32 0x7F7FFFFF#32
  let main_v15 : FVec F S128 .f32 := broadcastInDim S128 ![] bcast_S_S128 main_cst_3
  let main_v16 : IVec S128 1 := cmpf .ole main_v14 main_v15
  let main_v17 : FVec F S128 .f32 := Host.absf main_arg6
  fn_part1 (F := F) main_arg7 main_v1 main_v4 main_v7 main_v10 main_v13 main_v16 main_v17
-- ==== Kernel.lean ====
abbrev S4096x1536 : Shape := ⟨2, ![4096, 1536]⟩
abbrev S4096x2048 : Shape := ⟨2, ![4096, 2048]⟩
abbrev S4 : Shape := ⟨1, ![4]⟩
abbrev S1536x4096 : Shape := ⟨2, ![1536, 4096]⟩
abbrev S2048x128 : Shape := ⟨2, ![2048, 128]⟩
abbrev S128 : Shape := ⟨1, ![128]⟩
abbrev S2048x32 : Shape := ⟨2, ![2048, 32]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1024x128 : Shape := ⟨2, ![1024, 128]⟩
abbrev S1x128 : Shape := ⟨2, ![1, 128]⟩
abbrev S4096x128 : Shape := ⟨2, ![4096, 128]⟩
abbrev S4096x32 : Shape := ⟨2, ![4096, 32]⟩
abbrev S1024x2048 : Shape := ⟨2, ![1024, 2048]⟩
abbrev S1024x96 : Shape := ⟨2, ![1024, 96]⟩
abbrev S256x1536 : Shape := ⟨2, ![256, 1536]⟩
abbrev S256x32 : Shape := ⟨2, ![256, 32]⟩
abbrev S256x128 : Shape := ⟨2, ![256, 128]⟩
abbrev S256x2048 : Shape := ⟨2, ![256, 2048]⟩
abbrev S256x4096 : Shape := ⟨2, ![256, 4096]⟩
abbrev S256x4064 : Shape := ⟨2, ![256, 4064]⟩
abbrev S32x256 : Shape := ⟨2, ![32, 256]⟩
abbrev S256x256 : Shape := ⟨2, ![256, 256]⟩
abbrev S1x256 : Shape := ⟨2, ![1, 256]⟩
abbrev S128x2x256 : Shape := ⟨3, ![128, 2, 256]⟩
abbrev S128x1x256 : Shape := ⟨3, ![128, 1, 256]⟩
abbrev S64x4x256 : Shape := ⟨3, ![64, 4, 256]⟩
abbrev S64x2x256 : Shape := ⟨3, ![64, 2, 256]⟩
abbrev S32x8x256 : Shape := ⟨3, ![32, 8, 256]⟩
abbrev S32x4x256 : Shape := ⟨3, ![32, 4, 256]⟩
abbrev S16x16x256 : Shape := ⟨3, ![16, 16, 256]⟩
abbrev S16x8x256 : Shape := ⟨3, ![16, 8, 256]⟩
abbrev S8x32x256 : Shape := ⟨3, ![8, 32, 256]⟩
abbrev S8x16x256 : Shape := ⟨3, ![8, 16, 256]⟩
abbrev S4x64x256 : Shape := ⟨3, ![4, 64, 256]⟩
abbrev S4x32x256 : Shape := ⟨3, ![4, 32, 256]⟩
abbrev S2x128x256 : Shape := ⟨3, ![2, 128, 256]⟩
abbrev S2x64x256 : Shape := ⟨3, ![2, 64, 256]⟩
abbrev S1x256x256 : Shape := ⟨3, ![1, 256, 256]⟩
abbrev S1x128x256 : Shape := ⟨3, ![1, 128, 256]⟩
abbrev S256x1792 : Shape := ⟨2, ![256, 1792]⟩
abbrev S512x128 : Shape := ⟨2, ![512, 128]⟩
abbrev S512x256 : Shape := ⟨2, ![512, 256]⟩
abbrev S256x2x256 : Shape := ⟨3, ![256, 2, 256]⟩
abbrev S256x1x256 : Shape := ⟨3, ![256, 1, 256]⟩
abbrev S128x4x256 : Shape := ⟨3, ![128, 4, 256]⟩
abbrev S64x8x256 : Shape := ⟨3, ![64, 8, 256]⟩
abbrev S32x16x256 : Shape := ⟨3, ![32, 16, 256]⟩
abbrev S16x32x256 : Shape := ⟨3, ![16, 32, 256]⟩
abbrev S8x64x256 : Shape := ⟨3, ![8, 64, 256]⟩
abbrev S4x128x256 : Shape := ⟨3, ![4, 128, 256]⟩
abbrev S2x256x256 : Shape := ⟨3, ![2, 256, 256]⟩
abbrev S1x512x256 : Shape := ⟨3, ![1, 512, 256]⟩
abbrev S256x512 : Shape := ⟨2, ![256, 512]⟩
abbrev S1024x256 : Shape := ⟨2, ![1024, 256]⟩
abbrev S512x2x256 : Shape := ⟨3, ![512, 2, 256]⟩
abbrev S512x1x256 : Shape := ⟨3, ![512, 1, 256]⟩
abbrev S256x4x256 : Shape := ⟨3, ![256, 4, 256]⟩
abbrev S128x8x256 : Shape := ⟨3, ![128, 8, 256]⟩
abbrev S64x16x256 : Shape := ⟨3, ![64, 16, 256]⟩
abbrev S32x32x256 : Shape := ⟨3, ![32, 32, 256]⟩
abbrev S16x64x256 : Shape := ⟨3, ![16, 64, 256]⟩
abbrev S8x128x256 : Shape := ⟨3, ![8, 128, 256]⟩
abbrev S4x256x256 : Shape := ⟨3, ![4, 256, 256]⟩
abbrev S2x512x256 : Shape := ⟨3, ![2, 512, 256]⟩
abbrev S1x1024x256 : Shape := ⟨3, ![1, 1024, 256]⟩
abbrev S256x1024 : Shape := ⟨2, ![256, 1024]⟩

abbrev nBuf : Space → Nat
  | .hbm => 43
  | .vmem => 27
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4, .i32⟩
  | .hbm, ⟨3, _⟩ => ⟨S1536x4096, .f32⟩
  | .hbm, ⟨4, _⟩ => ⟨S2048x128, .f32⟩
  | .hbm, ⟨5, _⟩ => ⟨S128, .f32⟩
  | .hbm, ⟨6, _⟩ => ⟨S128, .f32⟩
  | .hbm, ⟨7, _⟩ => ⟨S2048x32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1024, .i32⟩
  | .hbm, ⟨19, _⟩ => ⟨S1024, .f32⟩
  | .hbm, ⟨20, _⟩ => ⟨S1024x1, .f32⟩
  | .hbm, ⟨21, _⟩ => ⟨S1x32, .f32⟩
  | .hbm, ⟨22, _⟩ => ⟨S1024x32, .f32⟩
  | .hbm, ⟨23, _⟩ => ⟨S1024x32, .f32⟩
  | .hbm, ⟨24, _⟩ => ⟨S1024x32, .f32⟩
  | .hbm, ⟨25, _⟩ => ⟨S1024x32, .f32⟩
  | .hbm, ⟨26, _⟩ => ⟨S1024x32, .f32⟩
  | .hbm, ⟨27, _⟩ => ⟨S_, .f32⟩
  | .hbm, ⟨28, _⟩ => ⟨S1024x64, .f32⟩
  | .hbm, ⟨29, _⟩ => ⟨S1024x128, .f32⟩
  | .hbm, ⟨30, _⟩ => ⟨S1024x32, .f32⟩
  | .hbm, ⟨31, _⟩ => ⟨S_, .f32⟩
  | .hbm, ⟨32, _⟩ => ⟨S1024x64, .f32⟩
  | .hbm, ⟨33, _⟩ => ⟨S1024x128, .f32⟩
  | .hbm, ⟨34, _⟩ => ⟨S1x128, .f32⟩
  | .hbm, ⟨35, _⟩ => ⟨S1x128, .f32⟩
  | .hbm, ⟨36, _⟩ => ⟨S1536x4096, .bf16⟩
  | .hbm, ⟨37, _⟩ => ⟨S2048x128, .bf16⟩
  | .hbm, ⟨38, _⟩ => ⟨S2048x32, .bf16⟩
  | .hbm, ⟨39, _⟩ => ⟨S4096x128, .f32⟩
  | .hbm, ⟨40, _⟩ => ⟨S4096x32, .f32⟩
  | .hbm, ⟨41, _⟩ => ⟨S4096x2048, .f32⟩
  | .hbm, ⟨42, _⟩ => ⟨S4096x2048, .i32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S2048x32, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x32, .f32⟩
  | .local _ .vmem, ⟨11, _⟩ => ⟨S1024x32, .f32⟩
  | .local _ .vmem, ⟨12, _⟩ => ⟨S256x1536, .f32⟩
  | .local _ .vmem, ⟨13, _⟩ => ⟨S256x1536, .f32⟩
  | .local _ .vmem, ⟨14, _⟩ => ⟨S1536x4096, .bf16⟩
  | .local _ .vmem, ⟨15, _⟩ => ⟨S1024x128, .f32⟩
  | .local _ .vmem, ⟨16, _⟩ => ⟨S1024x128, .f32⟩
  | .local _ .vmem, ⟨17, _⟩ => ⟨S256x32, .f32⟩
  | .local _ .vmem, ⟨18, _⟩ => ⟨S256x32, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x2048, .f32⟩
  | .local _ .vmem, ⟨24, _⟩ => ⟨S256x2048, .f32⟩
  | .local _ .vmem, ⟨25, _⟩ => ⟨S256x2048, .i32⟩
  | .local _ .vmem, ⟨26, _⟩ => ⟨S256x2048, .i32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v27_0 : Ref sig .tc := ⟨.hbm, 41, rfl⟩
abbrev main_v27_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def k1_cond1 (i : grid1.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_24 : BitVec 32 := 0#32
  let v74 : BitVec 1 := Scalar.cmpi .eq v9 c0_i32_24
  let v75 : BitVec 32 := Scalar.extui v74
  let c0_i32_25 : BitVec 32 := 0#32
  let v76 : BitVec 1 := Scalar.cmpi .ne v75 c0_i32_25
  v76

def k1_cond2 (i : grid1.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_26 : BitVec 32 := 1#32
  let v77 : BitVec 1 := Scalar.cmpi .eq v9 c1_i32_26
  let v78 : BitVec 32 := Scalar.extui v77
  let c0_i32_27 : BitVec 32 := 0#32
  let v79 : BitVec 1 := Scalar.cmpi .ne v78 c0_i32_27
  v79

def k1_cond3 (i : grid1.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32 : BitVec 32 := 2#32
  let v80 : BitVec 1 := Scalar.cmpi .sge v9 c2_i32
  let v81 : BitVec 32 := Scalar.extui v80
  let c0_i32_28 : BitVec 32 := 0#32
  let v82 : BitVec 1 := Scalar.cmpi .ne v81 c0_i32_28
  v82

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_5 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x2048 : Shape := ⟨2, ![4096, 2048]⟩
abbrev S4 : Shape := ⟨1, ![4]⟩
abbrev S1536x4096 : Shape := ⟨2, ![1536, 4096]⟩
abbrev S2048x128 : Shape := ⟨2, ![2048, 128]⟩
abbrev S128 : Shape := ⟨1, ![128]⟩
abbrev S2048x32 : Shape := ⟨2, ![2048, 32]⟩
abbrev S_ : Shape := ⟨0, ![]⟩
abbrev S4096 : Shape := ⟨1, ![4096]⟩
abbrev S4096x1 : Shape := ⟨2, ![4096, 1]⟩
abbrev S3 : Shape := ⟨1, ![3]⟩
abbrev S1x3 : Shape := ⟨2, ![1, 3]⟩
abbrev S4096x3 : Shape := ⟨2, ![4096, 3]⟩
abbrev S4096x4096 : Shape := ⟨2, ![4096, 4096]⟩
abbrev S4096x32x128 : Shape := ⟨3, ![4096, 32, 128]⟩
abbrev S4096x128 : Shape := ⟨2, ![4096, 128]⟩
abbrev S1x128 : Shape := ⟨2, ![1, 128]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x32x32 : Shape := ⟨3, ![4096, 32, 32]⟩
abbrev S4096x32x64 : Shape := ⟨3, ![4096, 32, 64]⟩
abbrev S4096x64 : Shape := ⟨2, ![4096, 64]⟩
abbrev S4096x32x4096 : Shape := ⟨3, ![4096, 32, 4096]⟩
abbrev S1x4096 : Shape := ⟨2, ![1, 4096]⟩

abbrev nBuf : Space → Nat
  | .hbm => 156
  | .vmem => 0
  | .smem => 0
  | _ => 0

abbrev hbmTy0_0 (i : Nat) : BufTy := match i % 128 with
  | 0 => ⟨S4096x1536, .f32⟩
  | 1 => ⟨S4096x2048, .f32⟩
  | 2 => ⟨S4, .i32⟩
  | 3 => ⟨S1536x4096, .f32⟩
  | 4 => ⟨S2048x128, .f32⟩
  | 5 => ⟨S128, .f32⟩
  | 6 => ⟨S128, .f32⟩
  | 7 => ⟨S2048x32, .f32⟩
  | 8 => ⟨S_, .i32⟩
  | 9 => ⟨S_, .i32⟩
  | 10 => ⟨S4, .i32⟩
  | 11 => ⟨S4096, .i32⟩
  | 12 => ⟨S4096x1, .i32⟩
  | 13 => ⟨S3, .i32⟩
  | 14 => ⟨S1x3, .i32⟩
  | 15 => ⟨S4096x3, .i32⟩
  | 16 => ⟨S4096x3, .i32⟩
  | 17 => ⟨S4096x3, .i1⟩
  | 18 => ⟨S3, .i32⟩
  | 19 => ⟨S1x3, .i32⟩
  | 20 => ⟨S_, .i32⟩
  | 21 => ⟨S_, .i32⟩
  | 22 => ⟨S4096x3, .i32⟩
  | 23 => ⟨S4096x3, .i32⟩
  | 24 => ⟨S4096x3, .i32⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096x4096, .f32⟩
  | 33 => ⟨S4096x32x128, .f32⟩
  | 34 => ⟨S4096x128, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x128, .f32⟩
  | 42 => ⟨S4096x128, .f32⟩
  | 43 => ⟨S4096x128, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x128, .f32⟩
  | 51 => ⟨S4096x128, .f32⟩
  | 52 => ⟨S_, .f32⟩
  | 53 => ⟨S4096x1, .f32⟩
  | 54 => ⟨S4096x1, .f32⟩
  | 55 => ⟨S4096x1, .f32⟩
  | 56 => ⟨S4096x128, .f32⟩
  | 57 => ⟨S4096x128, .f32⟩
  | 58 => ⟨S1x128, .f32⟩
  | 59 => ⟨S4096x128, .f32⟩
  | 60 => ⟨S4096x128, .f32⟩
  | 61 => ⟨S1x128, .f32⟩
  | 62 => ⟨S4096x128, .f32⟩
  | 63 => ⟨S4096x128, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S4096, .f32⟩
  | 75 => ⟨S4096x1, .f32⟩
  | 76 => ⟨S1x32, .f32⟩
  | 77 => ⟨S4096x32, .f32⟩
  | 78 => ⟨S4096x32, .f32⟩
  | 79 => ⟨S4096x32, .f32⟩
  | 80 => ⟨S4096x32, .f32⟩
  | 81 => ⟨S4096x32, .f32⟩
  | 82 => ⟨S4096x1x32, .f32⟩
  | 83 => ⟨S4096x1x32, .f32⟩
  | 84 => ⟨S4096x32x32, .f32⟩
  | 85 => ⟨S4096x32x32, .f32⟩
  | 86 => ⟨S4096x32x32, .f32⟩
  | 87 => ⟨S4096x32x32, .f32⟩
  | 88 => ⟨S4096x32x32, .f32⟩
  | 89 => ⟨S4096x32x32, .f32⟩
  | 90 => ⟨S4096x32x32, .f32⟩
  | 91 => ⟨S4096x32x32, .f32⟩
  | 92 => ⟨S4096x32x32, .f32⟩
  | 93 => ⟨S4096x32x32, .f32⟩
  | 94 => ⟨S4096x32x32, .f32⟩
  | 95 => ⟨S4096x32x32, .f32⟩
  | 96 => ⟨S4096x32x64, .f32⟩
  | 97 => ⟨S4096x32x128, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S4096, .f32⟩
  | 109 => ⟨S4096x1, .f32⟩
  | 110 => ⟨S1x32, .f32⟩
  | 111 => ⟨S4096x32, .f32⟩
  | 112 => ⟨S4096x32, .f32⟩
  | 113 => ⟨S4096x32, .f32⟩
  | 114 => ⟨S4096x32, .f32⟩
  | 115 => ⟨S4096x32, .f32⟩
  | 116 => ⟨S4096x32, .f32⟩
  | 117 => ⟨S4096x32, .f32⟩
  | 118 => ⟨S4096x32, .f32⟩
  | 119 => ⟨S4096x32, .f32⟩
  | 120 => ⟨S4096x32, .f32⟩
  | 121 => ⟨S4096x32, .f32⟩
  | 122 => ⟨S4096x32, .f32⟩
  | 123 => ⟨S4096x32, .f32⟩
  | 124 => ⟨S4096x64, .f32⟩
  | 125 => ⟨S4096x128, .f32⟩
  | 126 => ⟨S4096x32, .f32⟩
  | 127 => ⟨S_, .f32⟩
  | _ => ⟨S4096x1536, .f32⟩

abbrev hbmTy0_1 (i : Nat) : BufTy := match i % 128 with
  | 0 => ⟨S4096x32, .f32⟩
  | 1 => ⟨S4096x32, .f32⟩
  | 2 => ⟨S4096, .i32⟩
  | 3 => ⟨S4096x32x4096, .f32⟩
  | 4 => ⟨S_, .f32⟩
  | 5 => ⟨S4096x32x4096, .f32⟩
  | 6 => ⟨S4096x32x4096, .f32⟩
  | 7 => ⟨S4096x4096, .f32⟩
  | 8 => ⟨S_, .f32⟩
  | 9 => ⟨S4096x4096, .f32⟩
  | 10 => ⟨S4096x4096, .f32⟩
  | 11 => ⟨S1x4096, .i32⟩
  | 12 => ⟨S4096x1, .i32⟩
  | 13 => ⟨S4096x4096, .i32⟩
  | 14 => ⟨S4096x4096, .i32⟩
  | 15 => ⟨S4096x4096, .i1⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S4096x4096, .i1⟩
  | 22 => ⟨S_, .f32⟩
  | 23 => ⟨S_, .f32⟩
  | 24 => ⟨S4096x4096, .f32⟩
  | 25 => ⟨S4096x4096, .f32⟩
  | 26 => ⟨S4096x2048, .f32⟩
  | 27 => ⟨S4096x2048, .i32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_v75 : Ref sig .tc := ⟨.hbm, 100, rfl⟩
abbrev main_v76 : Ref sig .tc := ⟨.hbm, 101, rfl⟩
abbrev main_cst_10 : Ref sig .tc := ⟨.hbm, 102, rfl⟩
abbrev main_v77 : Ref sig .tc := ⟨.hbm, 103, rfl⟩
abbrev main_v78 : Ref sig .tc := ⟨.hbm, 104, rfl⟩
abbrev main_cst_11 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_12 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_call2_cst : Ref sig .tc := ⟨.hbm, 132, rfl⟩
abbrev main_call2_v0 : Ref sig .tc := ⟨.hbm, 133, rfl⟩
abbrev main_v104 : Ref sig .tc := ⟨.hbm, 134, rfl⟩
abbrev main_v105 : Ref sig .tc := ⟨.hbm, 135, rfl⟩
abbrev main_cst_13 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_14 : Ref sig .tc := ⟨.hbm, 150, rfl⟩
abbrev main_call3_v0 : Ref sig .tc := ⟨.hbm, 151, rfl⟩
abbrev main_call3_v1 : Ref sig .tc := ⟨.hbm, 152, rfl⟩
abbrev main_v119 : Ref sig .tc := ⟨.hbm, 153, rfl⟩
abbrev main_values : Ref sig .tc := ⟨.hbm, 154, rfl⟩
abbrev main_indices : Ref sig .tc := ⟨.hbm, 155, rfl⟩

abbrev nD : Nat := 1
abbrev τ : Topo := Topo.v7x

variable {F : FTy → Type} [FloatOps F]
-- ==== Proof.Stage.lean ====
/- One compare-exchange stage of the kernel's sort, as the kernel spells it on a pair of arrays (keys, row numbers): the
   `n` rows are cut into `m` blocks of `2 j`, the first `j` rows of a block are compared with the last `j`, and the two
   halves are put back. What the stage does to one column is one stage of the bitonic network on the column's entries,
   ordered by key and, of equal keys, the lesser row number first. -/
module

public import Idealize.ShloMosaic.Lib.SortNet.Sorts
public import Idealize.ShloMosaic.Lib.ValueIdx
public import Idealize.ShloMosaic.Lib.Pipeline.Value
public import Idealize.ShloMosaic.Lib.ShapeFacts

@[expose] public section

noncomputable section

namespace Indexer

open Idealize.ShloMosaic Idealize.ShloMosaic.ValueIdx Idealize.ShloMosaic.SortNet

/-- `n` rows of `r` lanes. -/
abbrev Rows (n r : ℕ) : Shape := ⟨2, ![n, r]⟩
/-- `m` blocks of `a` rows of `r` lanes. -/
abbrev Blocks (m a r : ℕ) : Shape := ⟨3, ![m, a, r]⟩

section Layout
variable {n m j r : ℕ} {α : Type}

theorem rows_casts (h : m * (2 * j) = n) : (Rows n r).ShapeCasts (Blocks m (2 * j) r) := by
  simp [Shape.ShapeCasts, Shape.numel_rank3, Shape.numel_rank2, ← h]

theorem blocks_casts (h : m * (2 * j) = n) : (Blocks m (2 * j) r).ShapeCasts (Rows n r) := (rows_casts h).symm

theorem slices_low : (Blocks m (2 * j) r).Slices ![0, 0, 0] (Blocks m j r) := by
  refine ⟨rfl, fun a => ?_⟩
  match a with
  | ⟨0, _⟩ => show 0 + m ≤ m; omega
  | ⟨1, _⟩ => show 0 + j ≤ 2 * j; omega
  | ⟨2, _⟩ => show 0 + r ≤ r; omega

theorem slices_high : (Blocks m (2 * j) r).Slices ![0, j, 0] (Blocks m j r) := by
  refine ⟨rfl, fun a => ?_⟩
  match a with
  | ⟨0, _⟩ => show 0 + m ≤ m; omega
  | ⟨1, _⟩ => show j + j ≤ 2 * j; omega
  | ⟨2, _⟩ => show 0 + r ≤ r; omega

theorem halves_concat : Shape.Concatenates [Blocks m j r, Blocks m j r] (Blocks m (2 * j) r) 1 := by
  refine ⟨by simp, fun s hs => ?_, ?_⟩
  · have e : s = Blocks m j r := by simpa using hs
    subst e
    refine ⟨rfl, fun b hb => ?_⟩
    match b with
    | ⟨0, _⟩ => rfl
    | ⟨1, _⟩ => exact absurd rfl hb
    | ⟨2, _⟩ => rfl
  · show j + (j + 0) = 2 * j
    omega

/-- The first `j` rows of every block. -/
def lows (h : m * (2 * j) = n) (x : (Rows n r).Idx → α) : (Blocks m j r).Idx → α :=
  extractStridedSlice (Blocks m j r) ![0, 0, 0] (shapeCast (Blocks m (2 * j) r) x (rows_casts h)) slices_low

/-- The last `j` rows of every block. -/
def highs (h : m * (2 * j) = n) (x : (Rows n r).Idx → α) : (Blocks m j r).Idx → α :=
  extractStridedSlice (Blocks m j r) ![0, j, 0] (shapeCast (Blocks m (2 * j) r) x (rows_casts h)) slices_high

/-- The halves of every block put back as rows. -/
def rejoin (h : m * (2 * j) = n) (lo hi : (Blocks m j r).Idx → α) : (Rows n r).Idx → α :=
  shapeCast (Rows n r) (concatenate (Blocks m (2 * j) r) 1 [⟨Blocks m j r, lo⟩, ⟨Blocks m j r, hi⟩] halves_concat) (blocks_casts h)

theorem row_lt (h : m * (2 * j) = n) (b : Fin m) (o : Fin (2 * j)) : b.val * (2 * j) + o.val < n := by
  have hb := b.isLt
  have ho := o.isLt
  calc b.val * (2 * j) + o.val < b.val * (2 * j) + 2 * j := by omega
    _ = (b.val + 1) * (2 * j) := by ring
    _ ≤ m * (2 * j) := Nat.mul_le_mul_right _ hb
    _ = n := h

theorem lows_apply (h : m * (2 * j) = n) (x : (Rows n r).Idx → α) (b : Fin m) (o : Fin j) (c : Fin r) :
    lows h x (ix3 b o c) = x (ix2 ⟨b.val * (2 * j) + o.val, row_lt h b ⟨o.val, by omega⟩⟩ c) := by
  unfold lows
  rw [extractStridedSlice_apply _ _ _ _ (ix3 b (⟨o.val, by omega⟩ : Fin (2 * j)) c) (fun a => by
    match a with
    | ⟨0, _⟩ => exact (Nat.zero_add _).symm
    | ⟨1, _⟩ => exact (Nat.zero_add _).symm
    | ⟨2, _⟩ => exact (Nat.zero_add _).symm)]
  exact shapeCast_apply _ _ _ _ (by rw [Shape.rowMajor_val_two, Shape.rowMajor_val_three]; rfl)

theorem highs_apply (h : m * (2 * j) = n) (x : (Rows n r).Idx → α) (b : Fin m) (o : Fin j) (c : Fin r) :
    highs h x (ix3 b o c) = x (ix2 ⟨b.val * (2 * j) + (j + o.val), row_lt h b ⟨j + o.val, by omega⟩⟩ c) := by
  unfold highs
  rw [extractStridedSlice_apply _ _ _ _ (ix3 b (⟨j + o.val, by omega⟩ : Fin (2 * j)) c) (fun a => by
    match a with
    | ⟨0, _⟩ => exact (Nat.zero_add _).symm
    | ⟨1, _⟩ => rfl
    | ⟨2, _⟩ => exact (Nat.zero_add _).symm)]
  exact shapeCast_apply _ _ _ _ (by rw [Shape.rowMajor_val_two, Shape.rowMajor_val_three]; rfl)

theorem rejoin_low (h : m * (2 * j) = n) (lo hi : (Blocks m j r).Idx → α) (b : Fin m) (o : Fin j) (c : Fin r) :
    rejoin h lo hi (ix2 ⟨b.val * (2 * j) + o.val, row_lt h b ⟨o.val, by omega⟩⟩ c) = lo (ix3 b o c) := by
  unfold rejoin
  rw [shapeCast_apply _ _ _ (ix3 b (⟨o.val, by omega⟩ : Fin (2 * j)) c)
    (by rw [Shape.rowMajor_val_two, Shape.rowMajor_val_three]; rfl)]
  exact concatenate_pair_apply_left (t := Blocks m (2 * j) r) (s₁ := Blocks m j r) (s₂ := Blocks m j r) 1 lo hi halves_concat _ rfl (ix3 b o c) fun a => by
    match a with
    | ⟨0, _⟩ => rfl
    | ⟨1, _⟩ => rfl
    | ⟨2, _⟩ => rfl

theorem rejoin_high (h : m * (2 * j) = n) (lo hi : (Blocks m j r).Idx → α) (b : Fin m) (o : Fin j) (c : Fin r) :
    rejoin h lo hi (ix2 ⟨b.val * (2 * j) + (j + o.val), row_lt h b ⟨j + o.val, by omega⟩⟩ c) = hi (ix3 b o c) := by
  unfold rejoin
  rw [shapeCast_apply _ _ _ (ix3 b (⟨j + o.val, by omega⟩ : Fin (2 * j)) c)
    (by rw [Shape.rowMajor_val_two, Shape.rowMajor_val_three]; rfl)]
  refine concatenate_pair_apply_right (t := Blocks m (2 * j) r) (s₁ := Blocks m j r) (s₂ := Blocks m j r) 1 lo hi halves_concat _ rfl rfl (ix3 b o c)
    (fun a ha => ?_) ?_
  · match a with
    | ⟨0, _⟩ => rfl
    | ⟨1, _⟩ => exact absurd rfl ha
    | ⟨2, _⟩ => rfl
  · show o.val + j = j + o.val
    omega

end Layout

/-! ## The exchange -/

/-- The blocks sorted the other way round: those whose first row has the bit `k`. -/
def ascending (m j r k : ℕ) (hi : (Blocks m j r).Iotas .tc 32 [0]) : IVec (Blocks m j r) 1 :=
  cmpi .ne
    (andi (muli (iota .tc (Blocks m j r) 32 [0] hi) (broadcast (Blocks m j r) (BitVec.ofNat 32 (2 * j))))
      (broadcast (Blocks m j r) (BitVec.ofNat 32 k)))
    (broadcast (Blocks m j r) 0#32)

/-- Where the two rows of a pair are exchanged. -/
def exchanged {s : Shape} (lk hk : FVec Ideal s .f32) (li hi : IVec s 32) (asc : IVec s 1) : IVec s 1 :=
  xori (ori (cmpf .ogt hk lk) (andi (cmpf .oeq hk lk) (cmpi .slt hi li))) asc

variable {n m j r : ℕ}

/-- The stage's exchanges on the pair of arrays. -/
def swaps (h : m * (2 * j) = n) (k : ℕ) (hi : (Blocks m j r).Iotas .tc 32 [0]) (K : FVec Ideal (Rows n r) .f32) (I : IVec (Rows n r) 32) :
    IVec (Blocks m j r) 1 :=
  exchanged (lows h K) (highs h K) (lows h I) (highs h I) (ascending m j r k hi)

/-- The keys after the stage. -/
def stageKeys (h : m * (2 * j) = n) (k : ℕ) (hi : (Blocks m j r).Iotas .tc 32 [0]) (K : FVec Ideal (Rows n r) .f32) (I : IVec (Rows n r) 32) :
    FVec Ideal (Rows n r) .f32 :=
  rejoin h (select (swaps h k hi K I) (highs h K) (lows h K)) (select (swaps h k hi K I) (lows h K) (highs h K))

/-- The row numbers after the stage. -/
def stageRows (h : m * (2 * j) = n) (k : ℕ) (hi : (Blocks m j r).Iotas .tc 32 [0]) (K : FVec Ideal (Rows n r) .f32) (I : IVec (Rows n r) 32) :
    IVec (Rows n r) 32 :=
  rejoin h (select (swaps h k hi K I) (highs h I) (lows h I)) (select (swaps h k hi K I) (lows h I) (highs h I))

/-! ## One column's entries -/

/-- An entry of a column: its key and, of equal keys, the lesser row number is the greater entry. -/
abbrev Entry : Type := EReal ×ₗ ℤᵒᵈ

/-- The entry of a key and a row number. -/
def entry (k : EReal) (i : BitVec 32) : Entry := toLex (k, OrderDual.toDual i.toInt)

theorem entry_key (k : EReal) (i : BitVec 32) : (ofLex (entry k i)).1 = k := rfl

theorem entry_lt {k k' : EReal} {i i' : BitVec 32} : entry k i < entry k' i' ↔ k < k' ∨ k = k' ∧ i'.toInt < i.toInt := by
  unfold entry
  rw [Prod.Lex.toLex_lt_toLex]
  rfl

/-- The entries of column `c`. -/
def column (K : FVec Ideal (Rows n r) .f32) (I : IVec (Rows n r) 32) (c : Fin r) : Fin n → Entry :=
  fun q => entry (K (ix2 q c)) (I (ix2 q c))

/-- The test for an exchange at one pair: the later entry is the greater, turned round in an ascending block. -/
theorem exchanged_apply {s : Shape} (lk hk : FVec Ideal s .f32) (li hi : IVec s 32) (asc : IVec s 1) (i : s.Idx) (a : Bool)
    (ha : asc i = BitVec.ofBool a) :
    exchanged lk hk li hi asc i = BitVec.ofBool (decide (entry (lk i) (li i) < entry (hk i) (hi i)) ^^ a) := by
  show IntOp.xori (IntOp.ori (Ideal.cmp .ogt (hk i) (lk i)) (IntOp.andi (Ideal.cmp .oeq (hk i) (lk i)) (IntOp.cmpi .slt (hi i) (li i)))) (asc i) = _
  rw [ha]
  have e1 : Ideal.cmp .ogt (hk i) (lk i) = BitVec.ofBool (decide ((lk i : EReal) < hk i)) := rfl
  have e2 : Ideal.cmp .oeq (hk i) (lk i) = BitVec.ofBool (decide ((hk i : EReal) = lk i)) := rfl
  have e3 : IntOp.cmpi .slt (hi i) (li i) = BitVec.ofBool (decide ((hi i).toInt < (li i).toInt)) := rfl
  have e4 : decide (entry (lk i) (li i) < entry (hk i) (hi i))
      = (decide ((lk i : EReal) < hk i) || (decide ((hk i : EReal) = lk i) && decide ((hi i).toInt < (li i).toInt))) := by
    rw [Bool.eq_iff_iff]
    simp only [decide_eq_true_eq, Bool.or_eq_true, Bool.and_eq_true, entry_lt]
    constructor
    · rintro (h | ⟨h, h'⟩)
      · exact Or.inl h
      · exact Or.inr ⟨h.symm, h'⟩
    · rintro (h | ⟨h, h'⟩)
      · exact Or.inl h
      · exact Or.inr ⟨h.symm, h'⟩
  rw [e1, e2, e3, e4]
  generalize decide ((lk i : EReal) < hk i) = x
  generalize decide ((hk i : EReal) = lk i) = y
  generalize decide ((hi i).toInt < (li i).toInt) = z
  clear ha
  revert x y z a
  decide

/-- The direction of a block, read off its number. -/
theorem ascending_apply (k : ℕ) (hi : (Blocks m j r).Iotas .tc 32 [0]) (b : Fin m) (o : Fin j) (c : Fin r)
    (hk : k < 2 ^ 32) (hb : m * (2 * j) ≤ 2 ^ 32) :
    ascending m j r k hi (ix3 b o c) = BitVec.ofBool (!decide ((b.val * (2 * j)) &&& k = 0)) := by
  have hlt : b.val * (2 * j) < 2 ^ 32 := by
    have := row_lt rfl b (⟨0, by have := o.isLt; omega⟩ : Fin (2 * j))
    simp only [Nat.add_zero] at this
    omega
  show IntOp.cmpi .ne (IntOp.andi (IntOp.muli (BitVec.ofNat 32 (0 * m + b.val)) (BitVec.ofNat 32 (2 * j))) (BitVec.ofNat 32 k)) 0#32 = _
  unfold IntOp.cmpi IntOp.andi IntOp.muli
  congr 1
  show (BitVec.ofNat 32 (0 * m + b.val) * BitVec.ofNat 32 (2 * j) &&& BitVec.ofNat 32 k != 0#32) = _
  rw [bne, Nat.zero_mul, Nat.zero_add]
  congr 1
  rw [Bool.eq_iff_iff, beq_iff_eq, decide_eq_true_eq]
  have e : (BitVec.ofNat 32 b.val * BitVec.ofNat 32 (2 * j) &&& BitVec.ofNat 32 k) = BitVec.ofNat 32 (b.val * (2 * j) &&& k) := by
    apply BitVec.eq_of_toNat_eq
    rw [BitVec.toNat_and, BitVec.toNat_mul, BitVec.toNat_ofNat, BitVec.toNat_ofNat, BitVec.toNat_ofNat, BitVec.toNat_ofNat,
      ← Nat.mul_mod, Nat.mod_eq_of_lt hlt, Nat.mod_eq_of_lt hk, Nat.mod_eq_of_lt (Nat.and_lt_two_pow _ hk)]
  rw [e]
  constructor
  · intro h
    have := congrArg BitVec.toNat h
    rw [BitVec.toNat_ofNat, Nat.mod_eq_of_lt (Nat.and_lt_two_pow _ hk)] at this
    exact this
  · intro h
    rw [h]

/-- WHAT A STAGE DOES to a pair of rows of a column. -/
theorem column_stage (h : m * (2 * j) = n) (k : ℕ) (hi : (Blocks m j r).Iotas .tc 32 [0]) (K : FVec Ideal (Rows n r) .f32)
    (I : IVec (Rows n r) 32) (hk : k < 2 ^ 32) (hn : n ≤ 2 ^ 32) (b : Fin m) (o : Fin j) (c : Fin r) :
    let x := column K I c ⟨b.val * (2 * j) + o.val, row_lt h b ⟨o.val, by omega⟩⟩
    let y := column K I c ⟨b.val * (2 * j) + (j + o.val), row_lt h b ⟨j + o.val, by omega⟩⟩
    let d := decide ((b.val * (2 * j)) &&& k = 0)
    column (stageKeys h k hi K I) (stageRows h k hi K I) c ⟨b.val * (2 * j) + o.val, row_lt h b ⟨o.val, by omega⟩⟩
        = (if d then max x y else min x y)
      ∧ column (stageKeys h k hi K I) (stageRows h k hi K I) c ⟨b.val * (2 * j) + (j + o.val), row_lt h b ⟨j + o.val, by omega⟩⟩
        = (if d then min x y else max x y) := by
  intro x y d
  have hs : swaps h k hi K I (ix3 b o c) = BitVec.ofBool (decide (x < y) ^^ !d) := by
    unfold swaps
    rw [exchanged_apply _ _ _ _ _ _ (!d) (ascending_apply k hi b o c hk (h ▸ hn)), lows_apply, highs_apply, lows_apply, highs_apply]
    rfl
  unfold column stageKeys stageRows
  rw [rejoin_low, rejoin_low, rejoin_high, rejoin_high]
  simp only [select_apply, hs, lows_apply, highs_apply]
  show entry (Scalar.select _ _ _) (Scalar.select _ _ _) = _ ∧ entry (Scalar.select _ _ _) (Scalar.select _ _ _) = _
  have key : ∀ (t : Bool) (k1 k2 : EReal) (i1 i2 : BitVec 32),
      entry (Scalar.select (BitVec.ofBool t) k1 k2) (Scalar.select (BitVec.ofBool t) i1 i2) = if t then entry k1 i1 else entry k2 i2 := by
    intro t k1 k2 i1 i2
    cases t <;> rfl
  rw [key, key]
  change (if _ then y else x) = _ ∧ (if _ then x else y) = _
  by_cases hxy : x < y
  · rw [decide_eq_true hxy, max_eq_right hxy.le, min_eq_left hxy.le]
    cases d <;> exact ⟨rfl, rfl⟩
  · rw [decide_eq_false hxy, max_eq_left (not_lt.mp hxy), min_eq_right (not_lt.mp hxy)]
    cases d <;> exact ⟨rfl, rfl⟩

end Indexer

end
-- ==== Proof.Plain.lean ====
/- The problem's mathematics over the extended reals: the scores of every query against every key, and that they are reals
   when the arguments are. -/
module

public import proofs.«01_k».proof.Proof.Stage
public import Idealize.ShloMosaic.PureOps.Ideal.Laws
public import Idealize.ShloMosaic.Lib.IdealHost

@[expose] public section

noncomputable section

namespace Indexer

open Idealize.ShloMosaic Idealize.ShloMosaic.ValueIdx Idealize.ShloMosaic.SortNet

/-! ## Reals among the extended reals -/

/-- `x` is a real number. -/
def IsReal (x : EReal) : Prop := ∃ r : ℝ, x = r

theorem IsReal.ne_bot {x : EReal} (h : IsReal x) : x ≠ ⊥ := by
  obtain ⟨r, rfl⟩ := h
  exact EReal.coe_ne_bot r

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {ι : Type} (s : Finset ι) {f : ι → EReal} (h : ∀ i ∈ s, IsReal (f i)) : IsReal (∑ i ∈ s, f i) :=
  Finset.sum_induction _ IsReal (fun _ _ => IsReal.add) IsReal.zero h

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem IsReal.div {x : EReal} (hx : IsReal x) {s : ℝ} (hs : s ≠ 0) : IsReal (Ideal.div x s) := by
  obtain ⟨r, rfl⟩ := hx
  refine ⟨r * s⁻¹, ?_⟩
  rw [Ideal.div, if_neg (by exact_mod_cast hs), ← EReal.coe_inv, EReal.coe_mul]

/-! ## The constants -/

theorem lane_count : Ideal.ofBits .f32 0x43000000#32 = ((128 : ℝ) : EReal) := by
  simp [Ideal.ofBits, Ideal.ieee, -EReal.coe_mul]; norm_num

theorem half_turn : Ideal.ofBits .f32 0x42000000#32 = ((32 : ℝ) : EReal) := by
  simp [Ideal.ofBits, Ideal.ieee, -EReal.coe_mul]; norm_num

theorem base : Ideal.ofBits .f32 0x461C4000#32 = ((10000 : ℝ) : EReal) := by
  simp [Ideal.ofBits, Ideal.ieee, -EReal.coe_mul]; norm_num

theorem epsilon : ∃ e : ℝ, 0 < e ∧ Ideal.ofBits .f32 0x358637BD#32 = (e : EReal) := by
  refine ⟨_, ?_, by simp [Ideal.ofBits, Ideal.ieee, -EReal.coe_mul]; rfl⟩
  positivity

theorem head_scale : IsReal (Ideal.ofBits .f32 0x3E3504F3#32) := by
  refine ⟨_, by simp [Ideal.ofBits, Ideal.ieee, -EReal.coe_mul]; rfl⟩

theorem width_scale : IsReal (Ideal.ofBits .f32 0x3DB504F3#32) := by
  refine ⟨_, by simp [Ideal.ofBits, Ideal.ieee, -EReal.coe_mul]; rfl⟩

/-! ## The formulas -/

/-- The frequency of a pair of lanes. -/
def frequency (d : Fin 32) : EReal :=
  Ideal.div (Ideal.ofBits .f32 0x3F800000#32) (Ideal.pow (Ideal.ofBits .f32 0x461C4000#32)
    (Ideal.div (((BitVec.ofNat 32 d.val).toInt : ℝ) : EReal) (Ideal.ofBits .f32 0x42000000#32)))

/-- The angle of a pair of lanes at place `l` of its sequence. -/
def angle (l : ℕ) (d : Fin 32) : EReal := (((BitVec.ofNat 32 l).toInt : ℝ) : EReal) * frequency d

/-- A row at place `l`, its first 64 lanes rotated in pairs. -/
def turned (l : ℕ) (y : Fin 128 → EReal) (d : Fin 128) : EReal :=
  if h : d.val < 32 then
    y d * Ideal.cos (angle l ⟨d.val, h⟩) - y ⟨d.val + 32, by omega⟩ * Ideal.sin (angle l ⟨d.val, h⟩)
  else if h' : d.val < 64 then
    y d * Ideal.cos (angle l ⟨d.val - 32, by omega⟩) + y ⟨d.val - 32, by omega⟩ * Ideal.sin (angle l ⟨d.val - 32, by omega⟩)
  else y d

/-- The mean of a row. -/
def mean (y : Fin 128 → EReal) : EReal := Ideal.div (∑ d, y d) (Ideal.ofBits .f32 0x43000000#32)

/-- The mean square of a row's distance from its mean. -/
def variance (y : Fin 128 → EReal) : EReal :=
  Ideal.div (∑ d, (y d - mean y) * (y d - mean y)) (Ideal.ofBits .f32 0x43000000#32)

/-- The normalized row. -/
def normed (y g b : Fin 128 → EReal) (d : Fin 128) : EReal :=
  Ideal.div (y d - mean y) (Ideal.sqrt (variance y + Ideal.ofBits .f32 0x358637BD#32)) * g d + b d

/-- An element of a product of matrices. -/
def rowDot {M K N : ℕ} (x : (Rows M K).Idx → EReal) (w : (Rows K N).Idx → EReal) (t : Fin M) (n : Fin N) : EReal :=
  ∑ k : Fin K, x (ix2 t k) * w (ix2 k n)

/-- Lane `d` of head `h`. -/
def headLane (h : Fin 32) (d : Fin 128) : Fin 4096 := ⟨128 * h.val + d.val, by omega⟩

variable (x0 : (Rows 4096 1536).Idx → EReal) (x1 : (Rows 4096 2048).Idx → EReal) (x3 : (Rows 1536 4096).Idx → EReal)
  (x4 : (Rows 2048 128).Idx → EReal) (g b : Fin 128 → EReal) (x7 : (Rows 2048 32).Idx → EReal)

/-- Token `t`'s key. -/
def keyRow (t : Fin 4096) : Fin 128 → EReal := turned (t.val % 1024) (normed (rowDot x1 x4 t) g b)

/-- Token `t`'s query of head `h`. -/
def queryRow (t : Fin 4096) (h : Fin 32) : Fin 128 → EReal := turned (t.val % 1024) fun d => rowDot x0 x3 t (headLane h d)

/-- The weight of head `h` for token `t`. -/
def headWeight (t : Fin 4096) (h : Fin 32) : EReal := rowDot x1 x7 t h * Ideal.ofBits .f32 0x3E3504F3#32

/-- The score of token `s`'s key for token `t`'s query. -/
def plainScore (t s : Fin 4096) : EReal :=
  (∑ h : Fin 32, headWeight x1 x7 t h * max (∑ d : Fin 128, queryRow x0 x3 t h d * keyRow x1 x4 g b s d) 0)
    * Ideal.ofBits .f32 0x3DB504F3#32

/-- A token's row of masked scores: its own sequence's keys, up to the token itself. -/
def plainRow (t s : Fin 4096) : EReal :=
  if 1024 * (t.val / 1024) ≤ s.val ∧ s.val ≤ t.val then plainScore x0 x1 x3 x4 g b x7 t s else ⊥

/-! ## They are reals -/

theorem frequency_real (d : Fin 32) : IsReal (frequency d) := by
  unfold frequency
  rw [Ideal.ofBits_one_f32, base, half_turn]
  obtain ⟨r, hr⟩ := IsReal.div (⟨_, rfl⟩ : IsReal (((BitVec.ofNat 32 d.val).toInt : ℝ) : EReal)) (by norm_num : (32 : ℝ) ≠ 0)
  rw [hr]
  show IsReal (Ideal.div 1 ((Real.rpow 10000 r : ℝ) : EReal))
  exact IsReal.div ⟨1, rfl⟩ (Real.rpow_pos_of_pos (by norm_num) r).ne'

theorem cos_real (l : ℕ) (d : Fin 32) : IsReal (Ideal.cos (angle l d)) := by
  obtain ⟨r, hr⟩ := IsReal.mul (⟨_, rfl⟩ : IsReal (((BitVec.ofNat 32 l).toInt : ℝ) : EReal)) (frequency_real d)
  unfold angle
  rw [hr]
  exact ⟨_, rfl⟩

theorem sin_real (l : ℕ) (d : Fin 32) : IsReal (Ideal.sin (angle l d)) := by
  obtain ⟨r, hr⟩ := IsReal.mul (⟨_, rfl⟩ : IsReal (((BitVec.ofNat 32 l).toInt : ℝ) : EReal)) (frequency_real d)
  unfold angle
  rw [hr]
  exact ⟨_, rfl⟩

theorem turned_real (l : ℕ) (y : Fin 128 → EReal) (hy : ∀ d, IsReal (y d)) (d : Fin 128) : IsReal (turned l y d) := by
  unfold turned
  split_ifs
  · exact ((hy _).mul (cos_real _ _)).sub ((hy _).mul (sin_real _ _))
  · exact ((hy _).mul (cos_real _ _)).add ((hy _).mul (sin_real _ _))
  · exact hy d

theorem mean_real (y : Fin 128 → EReal) (hy : ∀ d, IsReal (y d)) : IsReal (mean y) := by
  unfold mean
  rw [lane_count]
  exact (IsReal.sum _ fun d _ => hy d).div (by norm_num)

/-- The variance, the small constant added, is a positive real. -/
theorem variance_pos (y : Fin 128 → EReal) (hy : ∀ d, IsReal (y d)) :
    ∃ r : ℝ, 0 < r ∧ variance y + Ideal.ofBits .f32 0x358637BD#32 = (r : EReal) := by
  obtain ⟨m, hm⟩ := mean_real y hy
  choose z hz using hy
  obtain ⟨e, he, hee⟩ := epsilon
  have hsum : ∑ d, (y d - mean y) * (y d - mean y) = ((∑ d, (z d - m) * (z d - m) : ℝ) : EReal) := by
    rw [coe_sum]
    refine Finset.sum_congr rfl fun d _ => ?_
    rw [hm, hz, EReal.coe_mul, EReal.coe_sub]
  refine ⟨(∑ d, (z d - m) * (z d - m)) * (128 : ℝ)⁻¹ + e, ?_, ?_⟩
  · have : 0 ≤ ∑ d, (z d - m) * (z d - m) := Finset.sum_nonneg fun d _ => mul_self_nonneg _
    positivity
  · unfold variance
    rw [hee, lane_count, hsum, Ideal.div, if_neg (by exact_mod_cast (by norm_num : (128 : ℝ) ≠ 0)), ← EReal.coe_inv,
      ← EReal.coe_mul, ← EReal.coe_add]

/-- Multiplying by the reciprocal root is dividing by the root. -/
theorem mul_rsqrt (x : EReal) {r : ℝ} (hr : 0 < r) : x * Ideal.rsqrt r = Ideal.div x (Ideal.sqrt r) := by
  have h : (Real.sqrt r) ≠ 0 := (Real.sqrt_pos.mpr hr).ne'
  rw [Ideal.rsqrt_coe, Ideal.sqrt_coe, if_neg (not_lt.mpr hr.le), if_neg hr.ne', if_neg (not_lt.mpr hr.le), Ideal.div,
    if_neg (by exact_mod_cast h), EReal.coe_inv]

theorem normed_real (y g b : Fin 128 → EReal) (hy : ∀ d, IsReal (y d)) (hg : ∀ d, IsReal (g d)) (hb : ∀ d, IsReal (b d))
    (d : Fin 128) : IsReal (normed y g b d) := by
  obtain ⟨r, hr, h⟩ := variance_pos y hy
  unfold normed
  rw [h, Ideal.sqrt_coe, if_neg (not_lt.mpr hr.le)]
  exact ((((hy d).sub (mean_real y hy)).div (Real.sqrt_pos.mpr hr).ne').mul (hg d)).add (hb d)

theorem rowDot_real {M K N : ℕ} (x : (Rows M K).Idx → EReal) (w : (Rows K N).Idx → EReal) (hx : ∀ i, IsReal (x i))
    (hw : ∀ i, IsReal (w i)) (t : Fin M) (n : Fin N) : IsReal (rowDot x w t n) :=
  IsReal.sum _ fun _ _ => (hx _).mul (hw _)

theorem plainScore_real (h0 : ∀ i, IsReal (x0 i)) (h1 : ∀ i, IsReal (x1 i)) (h3 : ∀ i, IsReal (x3 i))
    (h4 : ∀ i, IsReal (x4 i)) (hg : ∀ d, IsReal (g d)) (hb : ∀ d, IsReal (b d)) (h7 : ∀ i, IsReal (x7 i)) (t s : Fin 4096) :
    IsReal (plainScore x0 x1 x3 x4 g b x7 t s) := by
  refine IsReal.mul (IsReal.sum _ fun h _ => IsReal.mul ((rowDot_real _ _ h1 h7 _ _).mul head_scale)
    (IsReal.max (IsReal.sum _ fun d _ => IsReal.mul ?_ ?_) IsReal.zero)) width_scale
  · exact turned_real _ _ (fun d => rowDot_real _ _ h0 h3 _ _) _
  · exact turned_real _ _ (normed_real _ _ _ (fun d => rowDot_real _ _ h1 h4 _ _) hg hb) _

end Indexer
-- ==== Proof.Rope.lean ====
/- How the kernels rotate the lanes of a row in pairs: the row times a table, plus the row with each lane replaced by its
   partner times a second table. -/
module

public import proofs.«01_k».proof.Proof.Plain
public import Idealize.ShloMosaic.Lib.Pipeline.Value

@[expose] public section

set_option maxRecDepth 16384

noncomputable section

namespace Indexer

open Idealize.ShloMosaic Idealize.ShloMosaic.ValueIdx Idealize.ShloMosaic.SortNet

/-- The remainder by 64 of a lane's word, at least 32: as the kernels compute it. -/
def upperWord (x : BitVec 32) : BitVec 1 :=
  let n : BitVec 32 := Scalar.select (Scalar.cmpi .eq 64#32 0#32) 1#32 64#32
  let r := IntOp.remsi .vector x n
  Scalar.cmpi .sge
    (Scalar.select (IntOp.andi (IntOp.xori (Scalar.cmpi .slt r 0#32) (Scalar.cmpi .slt n 0#32)) (Scalar.cmpi .ne r 0#32))
      (IntOp.addi r n) r) 32#32

theorem upperWord_lane : ∀ d : Fin 4096, upperWord (BitVec.ofNat 32 d.val) = if 32 ≤ d.val % 64 then 1#1 else 0#1 := by
  decide +kernel

/-- The mask of the upper lanes of each 64, over a whole array. -/
def upperMask (n m : ℕ) (lanes : IVec (Rows n m) 32) (k : BitVec 32) (hb : (Rows n m).Broadcasts (Rows n m)) : IVec (Rows n m) 1 :=
  have v39 : IVec (Rows n m) 32 := remsi lanes (broadcast (Rows n m) k)
  have v48 : IVec (Rows n m) 1 :=
    andi (xori (cmpi .slt v39 (broadcast (Rows n m) 0#32))
      (broadcastTo (Rows n m) (broadcast (Rows n m) (Scalar.cmpi .slt k 0#32)) hb)) (cmpi .ne v39 (broadcast (Rows n m) 0#32))
  cmpi .sge (select v48 (addi v39 (broadcast (Rows n m) k)) v39) (broadcast (Rows n m) 32#32)

theorem upperMask_apply {n m : ℕ} (hm : m ≤ 4096) (lanes : IVec (Rows n m) 32) (hl : ∀ i, lanes i = BitVec.ofNat 32 (i 1).val)
    (hb : (Rows n m).Broadcasts (Rows n m)) (i : (Rows n m).Idx) :
    upperMask n m lanes (Scalar.select (Scalar.cmpi .eq 64#32 0#32) 1#32 64#32) hb i =
      if 32 ≤ (i 1).val % 64 then 1#1 else 0#1 := by
  have h : upperMask n m lanes (Scalar.select (Scalar.cmpi .eq 64#32 0#32) 1#32 64#32) hb i = upperWord (lanes i) := rfl
  rw [h, hl i]
  exact upperWord_lane ⟨(i 1).val, lt_of_lt_of_le (i 1).isLt hm⟩

/-- A lane's partner: 32 lanes down for the upper half of each 64, else 32 lanes up. -/
def partner {m : ℕ} (hm : m % 64 = 0) (d : Fin m) : Fin m :=
  if h : 32 ≤ d.val % 64 then ⟨d.val - 32, by omega⟩ else ⟨d.val + 32, by omega⟩

/-- Every lane times the first table, plus its partner times the second. -/
theorem rotate_apply {n m m' : ℕ} (hm : m % 64 = 0) (hm' : 32 + m' = m) (x ct st : (Rows n m).Idx → EReal)
    (mask : IVec (Rows n m) 1) (hmask : ∀ i, mask i = if 32 ≤ (i 1).val % 64 then 1#1 else 0#1)
    (s1 : (Rows n m).Slices ![0, m'] (Rows n 32)) (s2 : (Rows n m).Slices ![0, 0] (Rows n m'))
    (s3 : (Rows n m).Slices ![0, 32] (Rows n m')) (s4 : (Rows n m).Slices ![0, 0] (Rows n 32))
    (c1 : Shape.Concatenates [Rows n 32, Rows n m'] (Rows n m) 1) (c2 : Shape.Concatenates [Rows n m', Rows n 32] (Rows n m) 1)
    (r : Fin n) (d : Fin m) :
    addf (F := Ideal) (φ := .f32) (mulf (F := Ideal) (φ := .f32) x ct)
      (mulf (F := Ideal) (φ := .f32)
        (select mask
          (concatenate (Rows n m) 1 [⟨Rows n 32, extractStridedSlice (Rows n 32) ![0, m'] x s1⟩,
            ⟨Rows n m', extractStridedSlice (Rows n m') ![0, 0] x s2⟩] c1)
          (concatenate (Rows n m) 1 [⟨Rows n m', extractStridedSlice (Rows n m') ![0, 32] x s3⟩,
            ⟨Rows n 32, extractStridedSlice (Rows n 32) ![0, 0] x s4⟩] c2)) st) (ix2 r d) =
      x (ix2 r d) * ct (ix2 r d) + x (ix2 r (partner hm d)) * st (ix2 r d) := by
  refine congrArg (fun z => x (ix2 r d) * ct (ix2 r d) + z * st (ix2 r d)) ?_
  show Scalar.select (mask (ix2 r d)) _ _ = _
  rw [hmask]
  have hd := d.isLt
  by_cases h : 32 ≤ d.val % 64
  · have hp : partner hm d = ⟨d.val - 32, by omega⟩ := dif_pos h
    rw [hp, if_pos (show 32 ≤ ((ix2 r d : (Rows n m).Idx) 1).val % 64 from h)]
    refine (concatenate_pair_apply_right (t := Rows n m) (s₁ := Rows n 32) (s₂ := Rows n m') 1 _ _ c1 (ix2 r d) rfl rfl
      (ix2 r (⟨d.val - 32, by omega⟩ : Fin m')) ?_ ?_).trans ?_
    · intro b hb
      match b with
      | 0 => rfl
      | 1 => exact absurd rfl hb
    · show d.val - 32 + 32 = d.val
      omega
    · refine extractStridedSlice_apply _ x s2 _ _ fun a => ?_
      match a with
      | 0 => exact (Nat.zero_add _).symm
      | 1 => exact (Nat.zero_add _).symm
  · have hp : partner hm d = ⟨d.val + 32, by omega⟩ := dif_neg h
    rw [hp, if_neg (show ¬ 32 ≤ ((ix2 r d : (Rows n m).Idx) 1).val % 64 from h)]
    refine (concatenate_pair_apply_left (t := Rows n m) (s₁ := Rows n m') (s₂ := Rows n 32) 1 _ _ c2 (ix2 r d) rfl
      (ix2 r (⟨d.val, by omega⟩ : Fin m')) ?_).trans ?_
    · intro b
      match b with
      | 0 => rfl
      | 1 => rfl
    · refine extractStridedSlice_apply _ x s3 _ _ fun a => ?_
      match a with
      | 0 => exact (Nat.zero_add _).symm
      | 1 => exact Nat.add_comm _ _

/-- The table of cosines, 1 past lane 64. -/
def cosAt (l : ℕ) (d : Fin 128) : EReal :=
  if h : d.val < 32 then Ideal.cos (angle l ⟨d.val, h⟩)
  else if h' : d.val < 64 then Ideal.cos (angle l ⟨d.val - 32, by omega⟩) else 1

/-- The table of sines, negated below lane 32 and 0 past lane 64. -/
def sinAt (l : ℕ) (d : Fin 128) : EReal :=
  if h : d.val < 32 then -Ideal.sin (angle l ⟨d.val, h⟩)
  else if h' : d.val < 64 then Ideal.sin (angle l ⟨d.val - 32, by omega⟩) else 0

/-- The two tables turn a row. -/
theorem tables_turn (l : ℕ) (y : Fin 128 → EReal) (d : Fin 128) :
    y d * cosAt l d + y (partner (by decide) d) * sinAt l d = turned l y d := by
  unfold cosAt sinAt turned
  by_cases h : d.val < 32
  · have hp : partner (by decide) d = (⟨d.val + 32, by omega⟩ : Fin 128) := dif_neg (by omega)
    rw [dif_pos h, dif_pos h, dif_pos h, hp, mul_neg, sub_eq_add_neg]
  · by_cases h' : d.val < 64
    · have hp : partner (by decide) d = (⟨d.val - 32, by omega⟩ : Fin 128) := dif_pos (by omega)
      rw [dif_neg h, dif_pos h', dif_neg h, dif_pos h', dif_neg h, dif_pos h', hp]
    · rw [dif_neg h, dif_neg h', dif_neg h, dif_neg h', dif_neg h, dif_neg h', mul_one, mul_zero, add_zero]

/-- The partner of a lane of a head is in that head. -/
theorem partner_headLane (h : Fin 32) (d : Fin 128) :
    partner (by decide) (headLane h d) = headLane h (partner (by decide) d) := by
  unfold partner headLane
  apply Fin.ext
  by_cases e : 32 ≤ d.val % 64
  · have e' : 32 ≤ (128 * h.val + d.val) % 64 := by omega
    simp only [dif_pos e, dif_pos e']
    omega
  · have e' : ¬ 32 ≤ (128 * h.val + d.val) % 64 := by omega
    simp only [dif_neg e, dif_neg e']
    omega

end Indexer
-- ==== Proof.Network.lean ====
/- The kernel's whole sort of `2 ^ p` rows: the stages in the kernel's order, on the pair of arrays, and that they leave every
   column's entries in descending order. -/
module

public import proofs.«01_k».proof.Proof.Stage

@[expose] public section

noncomputable section

namespace Indexer

open Idealize.ShloMosaic Idealize.ShloMosaic.ValueIdx Idealize.ShloMosaic.SortNet

/-- The keys and the row numbers, `n` rows of `r` lanes. -/
abbrev Pairs (n r : ℕ) : Type := FVec Ideal (Rows n r) .f32 × IVec (Rows n r) 32

theorem blocks_rows {p s : ℕ} (hs : s < p) : 2 ^ (p - 1 - s) * (2 * 2 ^ s) = 2 ^ p := by
  rw [← Nat.pow_succ', ← Nat.pow_add]
  congr 1
  omega

theorem iotas_blocks (m j r : ℕ) : (Blocks m j r).Iotas .tc 32 [0] := by
  simp [Shape.Iotas]

variable {p r : ℕ}

/-- The stage at distance `2 ^ s` of the level that sorts blocks of `2 ^ (l + 1)`. -/
def exchange (l s : ℕ) (hs : s < p) (x : Pairs (2 ^ p) r) : Pairs (2 ^ p) r :=
  (stageKeys (blocks_rows hs) (2 ^ (l + 1)) (iotas_blocks _ _ _) x.1 x.2,
    stageRows (blocks_rows hs) (2 ^ (l + 1)) (iotas_blocks _ _ _) x.1 x.2)

/-- The stages at distances `2 ^ (t - 1)`, …, `1` of a level, in this order. -/
def exchanges (l : ℕ) : (t : ℕ) → t ≤ p → Pairs (2 ^ p) r → Pairs (2 ^ p) r
  | 0, _, x => x
  | t + 1, ht, x => exchanges l t (Nat.le_of_succ_le ht) (exchange l t ht x)

/-- The first `l` levels. -/
def levels : (l : ℕ) → l ≤ p → Pairs (2 ^ p) r → Pairs (2 ^ p) r
  | 0, _, x => x
  | l + 1, hl, x => exchanges l (l + 1) hl (levels l (Nat.le_of_succ_le hl) x)

theorem two_pow_le {p : ℕ} (hp : p ≤ 31) : 2 ^ p < 2 ^ 32 := Nat.pow_lt_pow_right (by decide) (by omega)

/-- The bit that gives a block's direction is above the place in the block. -/
theorem block_bit {s l b o : ℕ} (hsl : s ≤ l) (ho : o < 2 * 2 ^ s) :
    (b * (2 * 2 ^ s) + o) &&& 2 ^ (l + 1) = 0 ↔ (b * (2 * 2 ^ s)) &&& 2 ^ (l + 1) = 0 := by
  rw [and_two_pow_eq_zero_iff_testBit, and_two_pow_eq_zero_iff_testBit, ← Nat.pow_succ', Nat.mul_comm b]
  rw [Nat.testBit_two_pow_mul_add _ (by rw [Nat.pow_succ']; exact ho)]
  have h0 := Nat.testBit_two_pow_mul_add b (b := 0) (i := s + 1) (Nat.two_pow_pos _) (l + 1)
  rw [Nat.add_zero] at h0
  rw [h0, if_neg (by omega), if_neg (by omega)]

/-- A row of the first half of a block has the bit `s` clear. -/
theorem low_bit {s b o : ℕ} (ho : o < 2 ^ s) : (b * (2 * 2 ^ s) + o) &&& 2 ^ s = 0 := by
  rw [and_two_pow_eq_zero_iff_testBit, ← Nat.pow_succ', Nat.mul_comm b,
    Nat.testBit_two_pow_mul_add _ (lt_of_lt_of_le ho (Nat.pow_le_pow_right (by decide) (by omega))), if_pos (by omega)]
  exact Nat.testBit_lt_two_pow ho

/-- Its partner is the row in the same place of the second half. -/
theorem low_partner {s b o : ℕ} (ho : o < 2 ^ s) :
    (b * (2 * 2 ^ s) + o) ^^^ 2 ^ s = b * (2 * 2 ^ s) + (2 ^ s + o) := by
  have e1 : b * (2 * 2 ^ s) + (2 ^ s + o) = 2 ^ s * (2 * b + 1) + o := by ring
  have e2 : b * (2 * 2 ^ s) + o = 2 ^ s * (2 * b) + o := by ring
  rw [e1, e2]
  apply Nat.eq_of_testBit_eq
  intro t
  rw [Nat.testBit_xor, Nat.testBit_two_pow_mul_add _ ho, Nat.testBit_two_pow_mul_add _ ho, Nat.testBit_two_pow]
  by_cases hts : t < s
  · rw [if_pos hts, if_pos hts, decide_eq_false (by omega), Bool.xor_false]
  · rw [if_neg hts, if_neg hts]
    obtain ⟨d, rfl⟩ : ∃ d, t = s + d := ⟨t - s, by omega⟩
    rw [Nat.add_sub_cancel_left]
    cases d with
    | zero => simp
    | succ d =>
      rw [decide_eq_false (by omega), Bool.xor_false, Nat.testBit_succ, Nat.testBit_succ]
      congr 1
      omega

/-- ONE STAGE of the kernel does to a column's entries what the network's stage does. -/
theorem column_exchange (hp : p ≤ 31) (l s : ℕ) (hs : s < p) (hl : l < p) (hsl : s ≤ l) (x : Pairs (2 ^ p) r) (c : Fin r) :
    column (exchange l s hs x).1 (exchange l s hs x).2 c
      = Network.apply (stage p s fun i => (decide (i.val &&& 2 ^ (l + 1) = 0)) == true) (column x.1 x.2 c) := by
  have hk : 2 ^ (l + 1) < 2 ^ 32 := Nat.pow_lt_pow_right (by decide) (by omega)
  have main : ∀ (b : Fin (2 ^ (p - 1 - s))) (o : Fin (2 ^ s)),
      let i : Fin (2 ^ p) := ⟨b.val * (2 * 2 ^ s) + o.val, row_lt (blocks_rows hs) b ⟨o.val, by omega⟩⟩
      let i' : Fin (2 ^ p) := ⟨b.val * (2 * 2 ^ s) + (2 ^ s + o.val), row_lt (blocks_rows hs) b ⟨2 ^ s + o.val, by omega⟩⟩
      column (exchange l s hs x).1 (exchange l s hs x).2 c i
          = Network.apply (stage p s fun i => (decide (i.val &&& 2 ^ (l + 1) = 0)) == true) (column x.1 x.2 c) i
        ∧ column (exchange l s hs x).1 (exchange l s hs x).2 c i'
          = Network.apply (stage p s fun i => (decide (i.val &&& 2 ^ (l + 1) = 0)) == true) (column x.1 x.2 c) i' := by
    intro b o i i'
    have hc := column_stage (blocks_rows hs) (2 ^ (l + 1)) (iotas_blocks _ _ _) x.1 x.2 hk (two_pow_le hp).le b o c
    have hi : i.val &&& 2 ^ s = 0 := low_bit o.isLt
    have hpart : partner p s i = i' := Fin.ext (by rw [partner_val hs]; exact low_partner o.isLt)
    have hn := apply_stage hs (fun i => (decide (i.val &&& 2 ^ (l + 1) = 0)) == true) (column x.1 x.2 c) i hi
    rw [hpart] at hn
    have hd : decide (i.val &&& 2 ^ (l + 1) = 0) = decide ((b.val * (2 * 2 ^ s)) &&& 2 ^ (l + 1) = 0) :=
      decide_eq_decide.mpr (block_bit hsl (by have := o.isLt; omega))
    simp only [beq_true, hd] at hn
    simp only [beq_true]
    exact ⟨hc.1.trans hn.1.symm, hc.2.trans hn.2.symm⟩
  funext q
  have hq : q.val < 2 ^ (p - 1 - s) * (2 * 2 ^ s) := by rw [blocks_rows hs]; exact q.isLt
  have hpos : 0 < 2 * 2 ^ s := by positivity
  have hb : q.val / (2 * 2 ^ s) < 2 ^ (p - 1 - s) := by
    rw [Nat.div_lt_iff_lt_mul hpos]; exact hq
  have hdm := Nat.div_add_mod q.val (2 * 2 ^ s)
  have hm := Nat.mod_lt q.val hpos
  by_cases ho : q.val % (2 * 2 ^ s) < 2 ^ s
  · have h := (main ⟨_, hb⟩ ⟨_, ho⟩).1
    have e : (⟨q.val / (2 * 2 ^ s) * (2 * 2 ^ s) + q.val % (2 * 2 ^ s), row_lt (blocks_rows hs) ⟨_, hb⟩ ⟨_, hm⟩⟩ : Fin (2 ^ p)) = q :=
      Fin.ext (by show _ * _ + _ = _; rw [Nat.mul_comm]; exact hdm)
    simp only [e] at h
    exact h
  · have ho' : q.val % (2 * 2 ^ s) - 2 ^ s < 2 ^ s := by omega
    have h := (main ⟨_, hb⟩ ⟨_, ho'⟩).2
    have e : (⟨q.val / (2 * 2 ^ s) * (2 * 2 ^ s) + (2 ^ s + (q.val % (2 * 2 ^ s) - 2 ^ s)),
        row_lt (blocks_rows hs) ⟨_, hb⟩ ⟨2 ^ s + (q.val % (2 * 2 ^ s) - 2 ^ s), by omega⟩⟩ : Fin (2 ^ p)) = q :=
      Fin.ext (by show _ * _ + _ = _; rw [Nat.mul_comm]; omega)
    simp only [e] at h
    exact h

theorem column_exchanges (hp : p ≤ 31) (l : ℕ) (hl : l < p) : ∀ (t : ℕ) (ht : t ≤ p), t ≤ l + 1 → ∀ (x : Pairs (2 ^ p) r) (c : Fin r),
    column (exchanges l t ht x).1 (exchanges l t ht x).2 c
      = Network.apply ((List.range t).reverse.flatMap fun s => stage p s fun i => (decide (i.val &&& 2 ^ (l + 1) = 0)) == true)
          (column x.1 x.2 c)
  | 0, _, _, _, _ => rfl
  | t + 1, ht, htl, x, c => by
    rw [List.range_succ, List.reverse_append, List.reverse_singleton, List.flatMap_append, Network.apply_append, exchanges,
      column_exchanges hp l hl t _ (by omega), column_exchange hp l t ht hl (by omega)]
    simp only [List.flatMap_cons, List.flatMap_nil, List.append_nil]

theorem column_levels (hp : p ≤ 31) : ∀ (l : ℕ) (hl : l ≤ p) (x : Pairs (2 ^ p) r) (c : Fin r),
    column (levels l hl x).1 (levels l hl x).2 c
      = Network.apply ((List.range l).flatMap fun l => (List.range (l + 1)).reverse.flatMap fun s =>
          stage p s fun i => (decide (i.val &&& 2 ^ (l + 1) = 0)) == true) (column x.1 x.2 c)
  | 0, _, _, _ => rfl
  | l + 1, hl, x, c => by
    rw [List.range_succ (n := l), List.flatMap_append, Network.apply_append, levels, column_exchanges hp l (by omega) _ _ (by omega),
      column_levels hp l]
    simp only [List.flatMap_cons, List.flatMap_nil, List.append_nil]

/-- The kernel's sort of `2 ^ p` rows leaves every column descending. -/
theorem column_sorted (hp : p ≤ 31) (x : Pairs (2 ^ p) r) (c : Fin r) :
    Antitone (column (levels p le_rfl x).1 (levels p le_rfl x).2 c) := by
  rw [column_levels hp]
  exact sortNet_apply_antitone p _

/-- And only moves the entries about. -/
theorem column_permuted (hp : p ≤ 31) (x : Pairs (2 ^ p) r) (c : Fin r) :
    ∃ σ : Equiv.Perm (Fin (2 ^ p)), column (levels p le_rfl x).1 (levels p le_rfl x).2 c = column x.1 x.2 c ∘ σ := by
  rw [column_levels hp]
  exact Network.exists_perm _ _

end Indexer

end
-- ==== Proof.Emit.lean ====
/- What one grid point of the second call computes, as the kernel spells it, for a prefix of `2 ^ p` keys: the scores of 256
   queries against the keys, the keys a query may not see masked, the sort of every query's column, and the two rows of
   results a query gets. -/
module

public import proofs.«01_k».proof.Proof.Network

@[expose] public section

noncomputable section

namespace Indexer

open Idealize.ShloMosaic Idealize.ShloMosaic.ValueIdx Idealize.ShloMosaic.SortNet

theorem rows_iota (n r : ℕ) (a : Fin 2) : (Rows n r).Iotas .tc 32 [a] := by
  match a with
  | ⟨0, _⟩ => simp [Shape.Iotas]
  | ⟨1, _⟩ => simp [Shape.Iotas]

/-- The places of the rows. -/
def rowIota (n r : ℕ) : IVec (Rows n r) 32 := iota .tc (Rows n r) 32 [0] (rows_iota n r 0)
/-- The places of the lanes. -/
def laneIota (n r : ℕ) : IVec (Rows n r) 32 := iota .tc (Rows n r) 32 [1] (rows_iota n r 1)

theorem head_slices {h : ℕ} (hh : h < 32) : (Rows 256 4096).Slices ![0, 128 * h] (Rows 256 128) := by
  refine ⟨rfl, fun a => ?_⟩
  match a with
  | ⟨0, _⟩ => show 0 + 256 ≤ 256; omega
  | ⟨1, _⟩ => show 128 * h + 128 ≤ 4096; omega

theorem weight_slices {h : ℕ} (hh : h < 32) : (Rows 32 256).Slices ![h, 0] (Rows 1 256) := by
  refine ⟨rfl, fun a => ?_⟩
  match a with
  | ⟨0, _⟩ => show h + 1 ≤ 32; omega
  | ⟨1, _⟩ => show 0 + 256 ≤ 256; omega

theorem weight_broadcasts (n : ℕ) : (Rows 1 256).Broadcasts (Rows n 256) := by
  refine ⟨le_refl _, fun a => ?_⟩
  match a with
  | ⟨0, _⟩ => exact Or.inl rfl
  | ⟨1, _⟩ => exact Or.inr fun _ => rfl

theorem swaps_rows (n : ℕ) : (Rows n 256).Transposes [1, 0] (Rows 256 n) := by
  refine ⟨List.Perm.swap 0 1 [], rfl, fun b => ?_⟩
  match b with
  | ⟨0, _⟩ => rfl
  | ⟨1, _⟩ => rfl

theorem pads_concat {n : ℕ} (hn : n ≤ 2048) :
    Shape.Concatenates [Rows 256 n, Rows 256 (2048 - n)] (Rows 256 2048) 1 := by
  refine ⟨by simp, fun s hs => ?_, ?_⟩
  · simp only [List.mem_cons, List.not_mem_nil, or_false] at hs
    rcases hs with rfl | rfl
    all_goals
      refine ⟨rfl, fun b hb => ?_⟩
      match b with
      | ⟨0, _⟩ => rfl
      | ⟨1, _⟩ => exact absurd rfl hb
  · show n + (2048 - n + 0) = 2048
    omega

section Block
variable (p : ℕ) (kb : FVec Ideal (Rows (2 ^ p) 128) .bf16) (q : FVec Ideal (Rows 256 4096) .bf16)
  (wt : FVec Ideal (Rows 32 256) .f32) (neg : Ideal .f32) (row0 seg : BitVec 32)

/-- One head's share of the scores: the products of keys and queries, the negative ones cut off, times the query's weight. -/
def headTerm (h : ℕ) (hh : h < 32) : FVec Ideal (Rows (2 ^ p) 256) .f32 :=
  mulf (broadcastTo (Rows (2 ^ p) 256) (extractStridedSlice (Rows 1 256) ![h, 0] wt (weight_slices hh)) (weight_broadcasts _))
    (extf .f32 (truncf .bf16 (maximumf
      (matmul (DotDims.transposedRhs (2 ^ p) 128 256) none kb
        (extractStridedSlice (Rows 256 128) ![0, 128 * h] q (head_slices hh)) (constant (Rows (2 ^ p) 256) .f32 0x00000000#32))
      (broadcast (Rows (2 ^ p) 256) (Scalar.ofBits .f32 0x00000000#32))) (by decide)) (by decide))

/-- The shares of the first `t` heads, added up. -/
def headSum : (t : ℕ) → t ≤ 32 → FVec Ideal (Rows (2 ^ p) 256) .f32
  | 0, _ => broadcast (Rows (2 ^ p) 256) (Scalar.ofBits .f32 0x00000000#32)
  | t + 1, ht => addf (headSum t (Nat.le_of_succ_le ht)) (headTerm p kb q wt t ht)

/-- The place in its segment of the query of each lane. -/
def lanePlace : IVec (Rows (2 ^ p) 256) 32 := addi (broadcast (Rows (2 ^ p) 256) row0) (laneIota (2 ^ p) 256)

/-- The scores; where the key comes after the query, the mask. -/
def maskedScores : FVec Ideal (Rows (2 ^ p) 256) .f32 :=
  select (cmpi .sle (rowIota (2 ^ p) 256) (lanePlace p row0))
    (mulf (headSum p kb q wt 32 le_rfl) (broadcast (Rows (2 ^ p) 256) (Scalar.ofBits .f32 0x3DB504F3#32)))
    (broadcast (Rows (2 ^ p) 256) neg)

/-- The scores and the keys' places, every column sorted. -/
def sortedPair : Pairs (2 ^ p) 256 :=
  levels p le_rfl (maskedScores p kb q wt neg row0, rowIota (2 ^ p) 256)

/-- How many keys the query of each lane may see. -/
def laneSeen : IVec (Rows (2 ^ p) 256) 32 := addi (lanePlace p row0) (broadcast (Rows (2 ^ p) 256) 1#32)

/-- The number written at a place after the keys a query may see, among the first `2 ^ p`. -/
def padRows : IVec (Rows (2 ^ p) 256) 32 :=
  select (cmpi .slt (subi (rowIota (2 ^ p) 256) (laneSeen p row0)) (broadcast (Rows (2 ^ p) 256) seg))
    (subi (rowIota (2 ^ p) 256) (laneSeen p row0))
    (subi (addi (addi (addi (broadcast (Rows (2 ^ p) 256) seg) (lanePlace p row0)) (broadcast (Rows (2 ^ p) 256) 1#32))
      (subi (rowIota (2 ^ p) 256) (laneSeen p row0))) (broadcast (Rows (2 ^ p) 256) seg))

/-- The place of a result after the first `2 ^ p`, less the number of keys its query may see. -/
def restPast (w : ℕ) : IVec (Rows 256 w) 32 :=
  subi (addi (laneIota 256 w) (broadcast (Rows 256 w) (BitVec.ofNat 32 (2 ^ p))))
    (addi (addi (broadcast (Rows 256 w) row0) (rowIota 256 w)) (broadcast (Rows 256 w) 1#32))

/-- The number written at a place after the first `2 ^ p`. -/
def padRest (w : ℕ) : IVec (Rows 256 w) 32 :=
  select (cmpi .slt (restPast p row0 w) (broadcast (Rows 256 w) seg)) (restPast p row0 w)
    (subi (addi (addi (addi (broadcast (Rows 256 w) seg) (addi (broadcast (Rows 256 w) row0) (rowIota 256 w)))
      (broadcast (Rows 256 w) 1#32)) (restPast p row0 w)) (broadcast (Rows 256 w) seg))

/-- The block of values one grid point stores. -/
def emitValues (hp : 2 ^ p ≤ 2048) : FVec Ideal (Rows 256 2048) .f32 :=
  concatenate (Rows 256 2048) 1
    [⟨Rows 256 (2 ^ p), transpose (Rows 256 (2 ^ p)) [1, 0]
        (select (cmpi .slt (rowIota (2 ^ p) 256) (laneSeen p row0)) (sortedPair p kb q wt neg row0).1
          (broadcast (Rows (2 ^ p) 256) neg)) (swaps_rows _)⟩,
      ⟨Rows 256 (2048 - 2 ^ p), broadcast (Rows 256 (2048 - 2 ^ p)) neg⟩] (pads_concat hp)

/-- The block of key numbers one grid point stores. -/
def emitRows (hp : 2 ^ p ≤ 2048) : IVec (Rows 256 2048) 32 :=
  concatenate (Rows 256 2048) 1
    [⟨Rows 256 (2 ^ p), transpose (Rows 256 (2 ^ p)) [1, 0]
        (select (cmpi .slt (rowIota (2 ^ p) 256) (laneSeen p row0))
          (addi (sortedPair p kb q wt neg row0).2 (broadcast (Rows (2 ^ p) 256) seg)) (padRows p row0 seg)) (swaps_rows _)⟩,
      ⟨Rows 256 (2048 - 2 ^ p), padRest p row0 seg (2048 - 2 ^ p)⟩] (pads_concat hp)

end Block
end Indexer
-- ==== Proof.Cases.lean ====
/- What the second call stores at a grid point: in each of its three cases the two blocks `Indexer.emitValues` and
   `Indexer.emitRows` of a prefix of 256, 512 or 1024 keys, over the queries and the weights the point computes first. -/
module

public import proofs.«01_k».proof.Proof.Emit
public import proofs.«01_k».proof.Proof.Gen.KernelIdeal.Frame
public import Idealize.ShloMosaic.Lib.Pipeline.ValueKit.Tiles

@[expose] public section

set_option maxRecDepth 16384
noncomputable section

namespace Indexer
open Idealize.ShloMosaic Idealize.ShloMosaic.ValueIdx Idealize.SL.Sem Cert.KernelIdeal Cert.KernelIdeal.Gen

/-- The named masking constant. -/
abbrev masked : Ideal .f32 := Named.named κ "mask" 0xF149F2CA#32
/-- The place in its segment of a grid point's first query. -/
abbrev placeBase (i : grid1.Coords) : BitVec 32 := kernelRun1_A.sl.v10 i
/-- The number of a grid point's segment's first token. -/
abbrev segmentBase (i : grid1.Coords) : BitVec 32 := Scalar.muli (kernelRun1_A.sl.v27 i) 1024#32
/-- The rotated queries of a grid point. -/
abbrev queries (x0 : Vec Ideal S256x1536 .f32) (x1 : Vec Ideal S1536x4096 .bf16) (x4 x5 : Vec Ideal S256x128 .f32) :
    FVec Ideal (Rows 256 4096) .bf16 :=
  k1_pay1246 (k1_pay1244 x0 x1) (k1_pay1245 x4) x5
/-- The first `n` keys. -/
def firstKeys (n : ℕ) (hn : n ≤ 1024) (x2 : Vec Ideal S1024x128 .f32) : FVec Ideal (Rows n 128) .bf16 :=
  fun j => x2 (ix2 (Fin.castLE hn (j 0)) (j 1))

theorem keys_inb {n : ℕ} (hn : n ≤ 1024) : ∀ a, ![0, 0] a + (Rows n 128).size a ≤ S1024x128.size a := fun a => by
  match a with
  | ⟨0, _⟩ => show 0 + n ≤ 1024; omega
  | ⟨1, _⟩ => show 0 + 128 ≤ 128; omega

theorem no_offset : (![0, 0] : Fin 2 → ℕ) = fun _ => 0 := by
  funext a; match a with
  | ⟨0, _⟩ => rfl
  | ⟨1, _⟩ => rfl

variable (c : Dev nD) (i : grid1.Coords) (arg1 : Memref sig .tc .vmem S256x1536 .f32) (harg1 : arg1.IsWhole)
  (arg2 : Memref sig .tc .vmem S1536x4096 .bf16) (harg2 : arg2.IsWhole) (arg3 : Memref sig .tc .vmem S1024x128 .f32)
  (harg3 : arg3.IsWhole) (arg4 : Memref sig .tc .vmem S256x32 .f32) (harg4 : arg4.IsWhole)
  (arg5 : Memref sig .tc .vmem S256x128 .f32) (harg5 : arg5.IsWhole) (arg6 : Memref sig .tc .vmem S256x128 .f32)
  (harg6 : arg6.IsWhole) (arg7 : Memref sig .tc .vmem S256x2048 .f32) (harg7 : arg7.IsWhole)
  (arg8 : Memref sig .tc .vmem S256x2048 .i32) (harg8 : arg8.IsWhole)
  (x0 : Vec Ideal S256x1536 .f32) (x1 : Vec Ideal S1536x4096 .bf16) (x2 : Vec Ideal S1024x128 .f32)
  (x3 : Vec Ideal S256x32 .f32) (x4 : Vec Ideal S256x128 .f32) (x5 : Vec Ideal S256x128 .f32)

/-- The prefix of keys as the kernel loads it. -/
def loadedKeys (n : ℕ) (hn : n ≤ 1024) : FVec Ideal (Rows n 128) .bf16 :=
  truncf (φ := .f32) .bf16 (shapeCast (Rows n 128) (View.readAt (Elt Ideal) arg3.view
    (Rect.unit (s := S1024x128) ![0, 0] (Rows n 128).size (keys_inb hn)).toLoadRect (harg3.unread x2)) rfl) (by decide)

theorem loadedKeys_eq (n : ℕ) (hn : n ≤ 1024) : loadedKeys arg3 harg3 x2 n hn = firstKeys n hn x2 := by
  unfold loadedKeys
  rw [View.readAt_eq_ld, harg3.read_unread]
  funext j
  refine (congrFun (shapeCast_self (s := Rows n 128)
    (View.ld x2 (Rect.unit (s := S1024x128) ![0, 0] (Rows n 128).size (keys_inb hn))) rfl) j : _ = _).trans ?_
  exact View.ld_unit_apply_of x2 _ _ _ j _ fun a => by
    match a with
    | ⟨0, _⟩ => exact (Nat.zero_add _).symm
    | ⟨1, _⟩ => exact (Nat.zero_add _).symm

/-- What a load of a whole staging buffer reads. -/
def loaded {S : Shape} {e : EltTy} (arg : Memref sig .tc .vmem S e) (harg : arg.IsWhole) (x : Vec Ideal S e)
    (off : Fin S.rank → ℕ) (inb : ∀ a, off a + S.size a ≤ S.size a) : Vec Ideal S e :=
  View.readAt (Elt Ideal) arg.view (Rect.unit off S.size inb).toLoadRect (harg.unread x)

theorem loaded_eq {S : Shape} {e : EltTy} (arg : Memref sig .tc .vmem S e) (harg : arg.IsWhole) (x : Vec Ideal S e)
    (off : Fin S.rank → ℕ) (inb : ∀ a, off a + S.size a ≤ S.size a) (h : off = fun _ => 0) : loaded arg harg x off inb = x := by
  unfold loaded
  rw [View.readAt_eq_ld, harg.read_unread]
  exact View.ld_unit_zero h inb x

/-- The queries as the kernel loads what they are made of. -/
def loadedQueries : FVec Ideal (Rows 256 4096) .bf16 :=
  queries (loaded arg1 harg1 x0 ![0, 0] inb_S256x1536_S256x1536_0_0) (loaded arg2 harg2 x1 ![0, 0] inb_S1536x4096_S1536x4096_0_0)
    (loaded arg5 harg5 x4 ![0, 0] inb_S256x128_S256x128_0_0) (loaded arg6 harg6 x5 ![0, 0] inb_S256x128_S256x128_0_0)

theorem loadedQueries_eq :
    loadedQueries arg1 harg1 arg2 harg2 arg5 harg5 arg6 harg6 x0 x1 x4 x5 = queries x0 x1 x4 x5 := by
  unfold loadedQueries
  rw [loaded_eq _ _ _ _ _ no_offset, loaded_eq _ _ _ _ _ no_offset, loaded_eq _ _ _ _ _ no_offset, loaded_eq _ _ _ _ _ no_offset]

/-- The weights as the kernel loads them. -/
def loadedWeights : FVec Ideal (Rows 32 256) .f32 := k1_pay1247 (loaded arg4 harg4 x3 ![0, 0] inb_S256x32_S256x32_0_0)

theorem loadedWeights_eq : loadedWeights arg4 harg4 x3 = k1_pay1247 x3 := by
  unfold loadedWeights
  rw [loaded_eq _ _ _ _ _ no_offset]

/-- Case A, the values. -/
theorem values_A (hc0 : cond1_0 i) (hc1 : ¬cond1_1 i) (hc2 : ¬cond1_2 i) :
    out1_A_6 (F := Ideal) c i arg1 harg1 arg2 harg2 arg3 harg3 arg4 harg4 arg5 harg5 arg6 harg6 arg7 harg7 arg8 harg8
      hc0 hc1 hc2 x0 x1 x2 x3 x4 x5 =
    emitValues 8 (firstKeys (2 ^ 8) (by decide) x2) (queries x0 x1 x4 x5) (k1_pay1247 x3)
      masked (placeBase i) (by decide) := by
  unfold out1_A_6
  rw [View.read_writes_eq_canon _ _ _ (cover1_A_6 c i arg1 harg1 arg2 harg2 arg3 harg3 arg4 harg4 arg5 harg5 arg6 harg6
    arg7 harg7 arg8 harg8 hc0 hc1 hc2 x0 x1 x2 x3 x4 x5)]
  unfold kernelRun1_A
  dsimp only
  refine (View.canon_unit_zero (S := S256x2048) no_offset _ _).trans ?_
  rw [← loadedKeys_eq arg3 harg3, ← loadedQueries_eq arg1 harg1 arg2 harg2 arg5 harg5 arg6 harg6, ← loadedWeights_eq arg4 harg4]
  sl_kernel_rfl

/-- Case A, the key numbers. -/
theorem rows_A (hc0 : cond1_0 i) (hc1 : ¬cond1_1 i) (hc2 : ¬cond1_2 i) :
    out1_A_7 (F := Ideal) c i arg1 harg1 arg2 harg2 arg3 harg3 arg4 harg4 arg5 harg5 arg6 harg6 arg7 harg7 arg8 harg8
      hc0 hc1 hc2 x0 x1 x2 x3 x4 x5 =
    emitRows 8 (firstKeys (2 ^ 8) (by decide) x2) (queries x0 x1 x4 x5) (k1_pay1247 x3)
      masked (placeBase i) (segmentBase i) (by decide) := by
  unfold out1_A_7
  rw [View.read_writes_eq_canon _ _ _ (cover1_A_7 c i arg1 harg1 arg2 harg2 arg3 harg3 arg4 harg4 arg5 harg5 arg6 harg6
    arg7 harg7 arg8 harg8 hc0 hc1 hc2 x0 x1 x2 x3 x4 x5)]
  unfold kernelRun1_A
  dsimp only
  refine (View.canon_unit_zero (S := S256x2048) no_offset _ _).trans ?_
  rw [← loadedKeys_eq arg3 harg3, ← loadedQueries_eq arg1 harg1 arg2 harg2 arg5 harg5 arg6 harg6, ← loadedWeights_eq arg4 harg4]
  sl_kernel_rfl

/-- Case B, the values. -/
theorem values_B (hc0 : ¬cond1_0 i) (hc1 : cond1_1 i) (hc2 : ¬cond1_2 i) :
    out1_B_6 (F := Ideal) c i arg1 harg1 arg2 harg2 arg3 harg3 arg4 harg4 arg5 harg5 arg6 harg6 arg7 harg7 arg8 harg8
      hc0 hc1 hc2 x0 x1 x2 x3 x4 x5 =
    emitValues 9 (firstKeys (2 ^ 9) (by decide) x2) (queries x0 x1 x4 x5) (k1_pay1247 x3)
      masked (placeBase i) (by decide) := by
  unfold out1_B_6
  rw [View.read_writes_eq_canon _ _ _ (cover1_B_6 c i arg1 harg1 arg2 harg2 arg3 harg3 arg4 harg4 arg5 harg5 arg6 harg6
    arg7 harg7 arg8 harg8 hc0 hc1 hc2 x0 x1 x2 x3 x4 x5)]
  unfold kernelRun1_B
  dsimp only
  refine (View.canon_unit_zero (S := S256x2048) no_offset _ _).trans ?_
  rw [← loadedKeys_eq arg3 harg3, ← loadedQueries_eq arg1 harg1 arg2 harg2 arg5 harg5 arg6 harg6, ← loadedWeights_eq arg4 harg4]
  sl_kernel_rfl

/-- Case B, the key numbers. -/
theorem rows_B (hc0 : ¬cond1_0 i) (hc1 : cond1_1 i) (hc2 : ¬cond1_2 i) :
    out1_B_7 (F := Ideal) c i arg1 harg1 arg2 harg2 arg3 harg3 arg4 harg4 arg5 harg5 arg6 harg6 arg7 harg7 arg8 harg8
      hc0 hc1 hc2 x0 x1 x2 x3 x4 x5 =
    emitRows 9 (firstKeys (2 ^ 9) (by decide) x2) (queries x0 x1 x4 x5) (k1_pay1247 x3)
      masked (placeBase i) (segmentBase i) (by decide) := by
  unfold out1_B_7
  rw [View.read_writes_eq_canon _ _ _ (cover1_B_7 c i arg1 harg1 arg2 harg2 arg3 harg3 arg4 harg4 arg5 harg5 arg6 harg6
    arg7 harg7 arg8 harg8 hc0 hc1 hc2 x0 x1 x2 x3 x4 x5)]
  unfold kernelRun1_B
  dsimp only
  refine (View.canon_unit_zero (S := S256x2048) no_offset _ _).trans ?_
  rw [← loadedKeys_eq arg3 harg3, ← loadedQueries_eq arg1 harg1 arg2 harg2 arg5 harg5 arg6 harg6, ← loadedWeights_eq arg4 harg4]
  sl_kernel_rfl

/-- Case C, the values. -/
theorem values_C (hc0 : ¬cond1_0 i) (hc1 : ¬cond1_1 i) (hc2 : cond1_2 i) :
    out1_C_6 (F := Ideal) c i arg1 harg1 arg2 harg2 arg3 harg3 arg4 harg4 arg5 harg5 arg6 harg6 arg7 harg7 arg8 harg8
      hc0 hc1 hc2 x0 x1 x2 x3 x4 x5 =
    emitValues 10 (firstKeys (2 ^ 10) (by decide) x2) (queries x0 x1 x4 x5) (k1_pay1247 x3)
      masked (placeBase i) (by decide) := by
  unfold out1_C_6
  rw [View.read_writes_eq_canon _ _ _ (cover1_C_6 c i arg1 harg1 arg2 harg2 arg3 harg3 arg4 harg4 arg5 harg5 arg6 harg6
    arg7 harg7 arg8 harg8 hc0 hc1 hc2 x0 x1 x2 x3 x4 x5)]
  unfold kernelRun1_C
  dsimp only
  refine (View.canon_unit_zero (S := S256x2048) no_offset _ _).trans ?_
  rw [← loadedKeys_eq arg3 harg3, ← loadedQueries_eq arg1 harg1 arg2 harg2 arg5 harg5 arg6 harg6, ← loadedWeights_eq arg4 harg4]
  sl_kernel_rfl

/-- Case C, the key numbers. -/
theorem rows_C (hc0 : ¬cond1_0 i) (hc1 : ¬cond1_1 i) (hc2 : cond1_2 i) :
    out1_C_7 (F := Ideal) c i arg1 harg1 arg2 harg2 arg3 harg3 arg4 harg4 arg5 harg5 arg6 harg6 arg7 harg7 arg8 harg8
      hc0 hc1 hc2 x0 x1 x2 x3 x4 x5 =
    emitRows 10 (firstKeys (2 ^ 10) (by decide) x2) (queries x0 x1 x4 x5) (k1_pay1247 x3)
      masked (placeBase i) (segmentBase i) (by decide) := by
  unfold out1_C_7
  rw [View.read_writes_eq_canon _ _ _ (cover1_C_7 c i arg1 harg1 arg2 harg2 arg3 harg3 arg4 harg4 arg5 harg5 arg6 harg6
    arg7 harg7 arg8 harg8 hc0 hc1 hc2 x0 x1 x2 x3 x4 x5)]
  unfold kernelRun1_C
  dsimp only
  refine (View.canon_unit_zero (S := S256x2048) no_offset _ _).trans ?_
  rw [← loadedKeys_eq arg3 harg3, ← loadedQueries_eq arg1 harg1 arg2 harg2 arg5 harg5 arg6 harg6, ← loadedWeights_eq arg4 harg4]
  sl_kernel_rfl

end Indexer
-- ==== Proof.KeyBlock.lean ====
/- What the first kernel leaves of a block of 1024 tokens: their keys and their head weights. -/
module

public import proofs.«01_k».proof.Proof.Gen.KernelIdeal.Frame
public import proofs.«01_k».proof.Proof.Rope
public import proofs.«01_k».proof.Proof.Cases
public import Idealize.ShloMosaic.Lib.MatmulPlain

@[expose] public section

set_option maxRecDepth 16384

noncomputable section

namespace Indexer

open Idealize.ShloMosaic Idealize.ShloMosaic.ValueIdx Idealize.ShloMosaic.SortNet Cert.KernelIdeal Cert.KernelIdeal.Gen

/-- A product of two matrices onto zero, read at an element. -/
theorem product_apply {M K N : ℕ} (x : (Rows M K).Idx → EReal) (w : (Rows K N).Idx → EReal) (t : Fin M) (n : Fin N) :
    matmul (F := Ideal) (φ₁ := .bf16) (φ₂ := .bf16) (DotDims.plain M K N) none x w (constant (F := Ideal) (Rows M N) .f32 0x00000000#32) (ix2 t n) =
      rowDot x w t n := by
  refine (Ideal.matmul_plain_apply (φ₁ := .bf16) (φ₂ := .bf16) none x w _ t n).trans ?_
  show Ideal.ofBits .f32 0x00000000#32 + _ = _
  rw [Ideal.ofBits_zero_f32, zero_add]
  rfl

/-- The means of the rows of an array, as a column. -/
def rowMeans (v : S1024x128.Idx → EReal) : S1024x1.Idx → EReal :=
  divf (F := Ideal) (φ := .f32)
    (shapeCast S1024x1 (multiReduction (F := Ideal) (φ := .f32) .add [1] S1024 v 0x00000000#32 reduces_S1024x128_S1024 (.inl rfl) rfl)
      shapeCasts_S1024_S1024x1)
    (broadcast S1024x1 (Ideal.ofBits .f32 0x43000000#32))

theorem rowMeans_apply (v : S1024x128.Idx → EReal) (i : S1024x1.Idx) :
    rowMeans v i = Ideal.div (∑ d : Fin 128, v (ix2 (i 0) d)) (Ideal.ofBits .f32 0x43000000#32) := by
  refine congrArg (fun z => Ideal.div z (Ideal.ofBits .f32 0x43000000#32)) ?_
  refine (shapeCast_apply _ _ i (ix1 (i 0)) ?_).trans ?_
  · rw [Shape.rowMajor_val_one, Shape.rowMajor_val_two]
    have h : (i 1).val < 1 := (i 1).isLt
    show (i 0).val = (i 0).val * 1 + (i 1).val
    omega
  · refine (Ideal.multiReduction_add_single _ _ _ _ _ _).trans (Finset.sum_congr rfl fun k _ => congrArg v ?_)
    exact eq_ix2 _

/-- A column spread over the lanes. -/
theorem column_apply (x : S1024x1.Idx → EReal) (i : S1024x128.Idx) :
    broadcastTo S1024x128 x broadcasts_S1024x1_S1024x128 i = x (ix2 (i 0) 0) := by
  refine broadcastTo_apply _ _ _ _ fun a => ?_
  match a with
  | 0 => rfl
  | 1 => rfl

/-- A row spread over the rows. -/
theorem oneRow_apply (x : S1x128.Idx → EReal) (i : S1024x128.Idx) :
    broadcastTo S1024x128 (shapeCast S1x128 x shapeCasts_S1x128_S1x128) broadcasts_S1x128_S1024x128 i = x (ix2 0 (i 1)) := by
  rw [shapeCast_self]
  refine broadcastTo_apply _ _ _ _ fun a => ?_
  match a with
  | 0 => rfl
  | 1 => rfl

/-- The normalized rows of a product of reals. -/
theorem normedRows_apply (x0 : S1024x2048.Idx → EReal) (x1 : S2048x128.Idx → EReal) (x3 x4 : S1x128.Idx → EReal) (r : Fin 1024)
    (d : Fin 128) (hy : ∀ d, IsReal (rowDot x0 x1 r d)) :
    k0_pay4 (F := Ideal) x0 x1 x3 x4 (ix2 r d) = normed (rowDot x0 x1 r) (fun d => x3 (ix2 0 d)) (fun d => x4 (ix2 0 d)) d := by
  obtain ⟨v, hv⟩ : ∃ v : S1024x128.Idx → EReal, v = matmul (F := Ideal) (φ₁ := .bf16) (φ₂ := .bf16) (DotDims.plain 1024 2048 128) none
    x0 (shapeCast S2048x128 x1 shapeCasts_S2048x128_S2048x128) (constant (F := Ideal) S1024x128 .f32 0x00000000#32) := ⟨_, rfl⟩
  have hvr : ∀ d, v (ix2 r d) = rowDot x0 x1 r d := fun d => by
    rw [hv, shapeCast_self]
    exact product_apply x0 x1 r d
  have hm : rowMeans v (ix2 r 0) = mean (rowDot x0 x1 r) :=
    (rowMeans_apply v _).trans (congrArg (fun z => Ideal.div z _) (Finset.sum_congr rfl fun d _ => hvr d))
  obtain ⟨w, hw⟩ : ∃ w : S1024x128.Idx → EReal, w = subf (F := Ideal) (φ := .f32) v
    (broadcastTo S1024x128 (rowMeans v) broadcasts_S1024x1_S1024x128) := ⟨_, rfl⟩
  have hwr : ∀ d, w (ix2 r d) = rowDot x0 x1 r d - mean (rowDot x0 x1 r) := fun d => by
    rw [hw]
    refine congrArg₂ (· - ·) (hvr d) ((column_apply _ _).trans hm)
  have hs : rowMeans (mulf (F := Ideal) (φ := .f32) w w) (ix2 r 0) = variance (rowDot x0 x1 r) :=
    (rowMeans_apply _ _).trans (congrArg (fun z => Ideal.div z _) (Finset.sum_congr rfl fun d _ => congrArg₂ (· * ·) (hwr d) (hwr d)))
  have e : k0_pay4 (F := Ideal) x0 x1 x3 x4 = addf (F := Ideal) (φ := .f32) (mulf (F := Ideal) (φ := .f32) (mulf (F := Ideal) (φ := .f32) w
      (broadcastTo S1024x128 (rsqrt (F := Ideal) (φ := .f32) (addf (F := Ideal) (φ := .f32) (rowMeans (mulf (F := Ideal) (φ := .f32) w w))
        (broadcast S1024x1 (Ideal.ofBits .f32 0x358637BD#32)))) broadcasts_S1024x1_S1024x128))
      (broadcastTo S1024x128 (shapeCast S1x128 x3 shapeCasts_S1x128_S1x128) broadcasts_S1x128_S1024x128))
      (broadcastTo S1024x128 (shapeCast S1x128 x4 shapeCasts_S1x128_S1x128) broadcasts_S1x128_S1024x128) := by
    rw [hw, hv]
    rfl
  rw [e]
  refine congrArg₂ (· + ·) (congrArg₂ (· * ·) ?_ (oneRow_apply x3 _)) (oneRow_apply x4 _)
  refine (congrArg₂ (· * ·) (hwr d) ((column_apply _ _).trans (congrArg (fun z => Ideal.rsqrt (z + Ideal.ofBits .f32 0x358637BD#32)) hs))).trans ?_
  obtain ⟨q, hq, hqe⟩ := variance_pos _ hy
  rw [hqe]
  exact mul_rsqrt _ hq

/-- The keys of a block. -/
theorem keyBlock_apply (x0 : S1024x2048.Idx → EReal) (x1 : S2048x128.Idx → EReal) (x2 : S2048x32.Idx → EReal) (x3 x4 : S1x128.Idx → EReal)
    (x5 x6 : S1024x128.Idx → EReal) (r : Fin 1024) (d : Fin 128) (hy : ∀ d, IsReal (rowDot x0 x1 r d)) (l : ℕ)
    (hc : ∀ d, x5 (ix2 r d) = cosAt l d) (hs : ∀ d, x6 (ix2 r d) = sinAt l d) :
    out0_7 (F := Ideal) x0 x1 x2 x3 x4 x5 x6 (ix2 r d) =
      turned l (normed (rowDot x0 x1 r) (fun d => x3 (ix2 0 d)) (fun d => x4 (ix2 0 d))) d := by
  unfold out0_7
  rw [View.canon_unit_zero no_offset, View.ld_unit_zero no_offset, View.ld_unit_zero no_offset, View.ld_unit_zero no_offset,
    View.ld_unit_zero no_offset, View.ld_unit_zero no_offset, View.ld_unit_zero no_offset]
  refine (rotate_apply (n := 1024) (m := 128) (m' := 96) (by decide) rfl (k0_pay4 (F := Ideal) x0 x1 x3 x4) (k0_pay5 (F := Ideal) x5)
    (k0_pay6 (F := Ideal) x6) (upperMask 1024 128 (iota .tc S1024x128 32 [1] iota_S1024x128_d1_w32)
      (Scalar.select (Scalar.cmpi .eq 64#32 0#32) 1#32 64#32) broadcasts_S1024x128_S1024x128)
    (upperMask_apply (by decide) _ (fun i => iota_single_apply _ _ _ _ _ i) _) slices_S1024x128_o0_96_S1024x32 slices_S1024x128_o0_0_S1024x96
    slices_S1024x128_o0_32_S1024x96 slices_S1024x128_o0_0_S1024x32 concatenates_S1024x32_S1024x96_S1024x128_d1
    concatenates_S1024x96_S1024x32_S1024x128_d1 r d).trans ?_
  rw [normedRows_apply x0 x1 x3 x4 r _ hy, normedRows_apply x0 x1 x3 x4 r _ hy]
  unfold k0_pay5 k0_pay6
  rw [shapeCast_self, shapeCast_self, hc, hs]
  exact tables_turn l _ d

/-- The head weights of a block. -/
theorem weightBlock_apply (x0 : S1024x2048.Idx → EReal) (x1 : S2048x128.Idx → EReal) (x2 : S2048x32.Idx → EReal) (x3 x4 : S1x128.Idx → EReal)
    (x5 x6 : S1024x128.Idx → EReal) (r : Fin 1024) (h : Fin 32) :
    out0_8 (F := Ideal) x0 x1 x2 x3 x4 x5 x6 (ix2 r h) = rowDot x0 x2 r h * Ideal.ofBits .f32 0x3E3504F3#32 := by
  unfold out0_8
  rw [View.canon_unit_zero no_offset, View.ld_unit_zero no_offset, View.ld_unit_zero no_offset]
  unfold k0_pay2
  rw [shapeCast_self]
  exact congrArg (· * Ideal.ofBits .f32 0x3E3504F3#32) (product_apply x0 x2 r h)

end Indexer
-- ==== Proof.Tables.lean ====
/- What the operations before the kernels leave: the tables of cosines and sines, and the weights as the kernels read them. -/
module

public import proofs.«01_k».proof.Proof.Gen.KernelIdeal.Frame
public import proofs.«01_k».proof.Proof.Plain
public import Idealize.ShloMosaic.Lib.Pipeline.Value

@[expose] public section

set_option maxRecDepth 16384

noncomputable section

namespace Indexer

open Idealize.ShloMosaic Idealize.ShloMosaic.ValueIdx Idealize.ShloMosaic.TcCoe Idealize.ShloMosaic.SortNet Idealize.SL.Sem Cert.KernelIdeal
  Cert.KernelIdeal.Gen

/-- The angles of the 1024 places. -/
def angles : S1024x32.Idx → EReal :=
  mulf (F := Ideal) (φ := .f32)
    (broadcastInDim S1024x32 ![0, 1] bcast_S1024x1_S1024x32_0_1
      (broadcastInDim S1024x1 ![0] bcast_S1024_S1024x1_0 (sitofp (F := Ideal) .f32 (iotaInDim S1024 32 0))))
    (broadcastInDim S1024x32 ![0, 1] bcast_S1x32_S1024x32_0_1
      (broadcastInDim S1x32 ![1] bcast_S32_S1x32_1
        (Host.divf (F := Ideal) (φ := .f32) (broadcastInDim S32 ![] bcast_S_S32 (constant S_ .f32 0x3F800000#32))
          (Host.powf (F := Ideal) (φ := .f32) (broadcastInDim S32 ![] bcast_S_S32 (constant S_ .f32 0x461C4000#32))
            (Host.divf (F := Ideal) (φ := .f32) (sitofp (F := Ideal) .f32 (iotaInDim S32 32 0))
              (broadcastInDim S32 ![] bcast_S_S32 (constant S_ .f32 0x42000000#32)))))))

variable (m : (ℓ : Loc nD τ sig) → Buf (Elt Ideal) ℓ) (ρ : Dev nD → PrngReg) (c : Dev nD)

theorem cos_table : W1 m ρ c (Proc.devRef .tc main_v17) =
    concatenate S1024x128 1 [⟨S1024x32, Host.cos (F := Ideal) (φ := .f32) angles⟩, ⟨S1024x32, Host.cos (F := Ideal) (φ := .f32) angles⟩,
      ⟨S1024x64, broadcastInDim S1024x64 ![] bcast_S_S1024x64 (constant (F := Ideal) S_ .f32 0x3F800000#32)⟩]
      concatenates_S1024x32_S1024x32_S1024x64_S1024x128_d1 := by
  show StableHlo.after hostOps0 (W0 m ρ c) (Proc.devRef .tc main_v17) = _
  after_results
  rfl

theorem sin_table : W1 m ρ c (Proc.devRef .tc main_v20) =
    concatenate S1024x128 1 [⟨S1024x32, Host.negf (F := Ideal) (φ := .f32) (Host.sin (F := Ideal) (φ := .f32) angles)⟩,
      ⟨S1024x32, Host.sin (F := Ideal) (φ := .f32) angles⟩,
      ⟨S1024x64, broadcastInDim S1024x64 ![] bcast_S_S1024x64 (constant (F := Ideal) S_ .f32 0x00000000#32)⟩]
      concatenates_S1024x32_S1024x32_S1024x64_S1024x128_d1 := by
  show StableHlo.after hostOps0 (W0 m ρ c) (Proc.devRef .tc main_v20) = _
  after_results
  rfl

theorem gain_table : W1 m ρ c (Proc.devRef .tc main_v21) =
    shapeCast S1x128 (m ((c : Thread nD τ).loc main_arg5)) shapeCasts_S128_S1x128 := by
  show StableHlo.after hostOps0 (W0 m ρ c) (Proc.devRef .tc main_v21) = _
  after_results
  rfl

theorem shift_table : W1 m ρ c (Proc.devRef .tc main_v22) =
    shapeCast S1x128 (m ((c : Thread nD τ).loc main_arg6)) shapeCasts_S128_S1x128 := by
  show StableHlo.after hostOps0 (W0 m ρ c) (Proc.devRef .tc main_v22) = _
  after_results
  rfl

theorem query_weights : W1 m ρ c (Proc.devRef .tc main_v23) = m ((c : Thread nD τ).loc main_arg3) := by
  show StableHlo.after hostOps0 (W0 m ρ c) (Proc.devRef .tc main_v23) = _
  after_results
  rfl

theorem key_weights : W1 m ρ c (Proc.devRef .tc main_v24) = m ((c : Thread nD τ).loc main_arg4) := by
  show StableHlo.after hostOps0 (W0 m ρ c) (Proc.devRef .tc main_v24) = _
  after_results
  rfl

theorem head_weights : W1 m ρ c (Proc.devRef .tc main_v25) = m ((c : Thread nD τ).loc main_arg7) := by
  show StableHlo.after hostOps0 (W0 m ρ c) (Proc.devRef .tc main_v25) = _
  after_results
  rfl

end Indexer
-- ==== Proof.TableRead.lean ====
/- The tables of cosines and sines, and the gain and the shift, element by element. -/
module

public import proofs.«01_k».proof.Proof.Tables
public import proofs.«01_k».proof.Proof.Rope

@[expose] public section

set_option maxRecDepth 16384

noncomputable section

namespace Indexer

open Idealize.ShloMosaic Idealize.ShloMosaic.ValueIdx Idealize.ShloMosaic.TcCoe Idealize.ShloMosaic.SortNet Idealize.SL.Sem Cert.KernelIdeal
  Cert.KernelIdeal.Gen

theorem angles_apply (l : Fin 1024) (d : Fin 32) : angles (ix2 l d) = angle l.val d := rfl

/-- Three pieces of 32, 32 and 64 lanes side by side, read at a lane. -/
theorem threePieces_apply (x y : S1024x32.Idx → EReal) (z : S1024x64.Idx → EReal) (l : Fin 1024) (d : Fin 128) :
    concatenate S1024x128 1 [⟨S1024x32, x⟩, ⟨S1024x32, y⟩, ⟨S1024x64, z⟩] concatenates_S1024x32_S1024x32_S1024x64_S1024x128_d1 (ix2 l d) =
      if h : d.val < 32 then x (ix2 l ⟨d.val, h⟩)
      else if h' : d.val < 64 then y (ix2 l ⟨d.val - 32, by omega⟩) else z (ix2 l ⟨d.val - 64, by omega⟩) := by
  by_cases h : d.val < 32
  · rw [dif_pos h]
    refine concatenate_apply_piece (t := S1024x128) 1 _ _ (ix2 l d) 0 (by show 0 < 3; omega) S1024x32 _ rfl rfl 0 rfl
      (ix2 l ⟨d.val, h⟩) (fun a ha => ?_) (Nat.zero_add _)
    match a with
    | ⟨0, _⟩ => rfl
    | ⟨1, _⟩ => exact absurd rfl ha
  rw [dif_neg h]
  by_cases h' : d.val < 64
  · rw [dif_pos h']
    refine concatenate_apply_piece (t := S1024x128) 1 _ _ (ix2 l d) 1 (by show 1 < 3; omega) S1024x32 _ rfl rfl 32 rfl
      (ix2 l ⟨d.val - 32, by omega⟩) (fun a ha => ?_) (by show 32 + (d.val - 32) = d.val; omega)
    match a with
    | ⟨0, _⟩ => rfl
    | ⟨1, _⟩ => exact absurd rfl ha
  · rw [dif_neg h']
    refine concatenate_apply_piece (t := S1024x128) 1 _ _ (ix2 l d) 2 (by show 2 < 3; omega) S1024x64 _ rfl rfl 64 rfl
      (ix2 l ⟨d.val - 64, by omega⟩) (fun a ha => ?_) (by show 64 + (d.val - 64) = d.val; omega)
    match a with
    | ⟨0, _⟩ => rfl
    | ⟨1, _⟩ => exact absurd rfl ha

variable (m : (ℓ : Loc nD τ sig) → Buf (Elt Ideal) ℓ) (ρ : Dev nD → PrngReg) (c : Dev nD)

theorem cos_table_apply (l : Fin 1024) (d : Fin 128) :
    (W1 m ρ c (Proc.devRef .tc main_v17) : S1024x128.Idx → EReal) (ix2 l d) = cosAt l.val d := by
  rw [cos_table]
  refine (threePieces_apply _ _ _ l d).trans ?_
  unfold cosAt
  split_ifs
  · rfl
  · rfl
  · exact Ideal.ofBits_one_f32

theorem sin_table_apply (l : Fin 1024) (d : Fin 128) :
    (W1 m ρ c (Proc.devRef .tc main_v20) : S1024x128.Idx → EReal) (ix2 l d) = sinAt l.val d := by
  rw [sin_table]
  refine (threePieces_apply _ _ _ l d).trans ?_
  unfold sinAt
  split_ifs
  · rfl
  · rfl
  · exact Ideal.ofBits_zero_f32

theorem gain_table_apply (d : Fin 128) : (W1 m ρ c (Proc.devRef .tc main_v21) : S1x128.Idx → EReal) (ix2 0 d) =
    (m ((c : Thread nD τ).loc main_arg5) : S128.Idx → EReal) (ix1 d) := by
  rw [gain_table]
  exact shapeCast_apply (s := S128) (t := S1x128) _ _ _ _ (by rw [Shape.rowMajor_val_one, Shape.rowMajor_val_two]; show d.val = 0 * 128 + d.val; omega)

theorem shift_table_apply (d : Fin 128) : (W1 m ρ c (Proc.devRef .tc main_v22) : S1x128.Idx → EReal) (ix2 0 d) =
    (m ((c : Thread nD τ).loc main_arg6) : S128.Idx → EReal) (ix1 d) := by
  rw [shift_table]
  exact shapeCast_apply (s := S128) (t := S1x128) _ _ _ _ (by rw [Shape.rowMajor_val_one, Shape.rowMajor_val_two]; show d.val = 0 * 128 + d.val; omega)

end Indexer
-- ==== Proof.KeyArray.lean ====
/- What the first kernel leaves: every token's key and head weights. -/
module

public import proofs.«01_k».proof.Proof.KeyBlock
public import proofs.«01_k».proof.Proof.TableRead

@[expose] public section

set_option maxRecDepth 16384

noncomputable section

namespace Indexer

open Idealize.ShloMosaic Idealize.ShloMosaic.ValueIdx Idealize.ShloMosaic.TcCoe Idealize.ShloMosaic.SortNet Idealize.SL.Sem Cert.KernelIdeal
  Cert.KernelIdeal.Gen

variable (m : (ℓ : Loc nD τ sig) → Buf (Elt Ideal) ℓ) (ρ : Dev nD → PrngReg) (c : Dev nD)

/-! ## The arguments as arrays -/

abbrev hidden : (Rows 4096 1536).Idx → EReal := m ((c : Thread nD τ).loc main_arg0)
abbrev inputs : (Rows 4096 2048).Idx → EReal := m ((c : Thread nD τ).loc main_arg1)
abbrev wq : (Rows 1536 4096).Idx → EReal := m ((c : Thread nD τ).loc main_arg3)
abbrev wk : (Rows 2048 128).Idx → EReal := m ((c : Thread nD τ).loc main_arg4)
abbrev gain : Fin 128 → EReal := fun d => (m ((c : Thread nD τ).loc main_arg5) : S128.Idx → EReal) (ix1 d)
abbrev shift : Fin 128 → EReal := fun d => (m ((c : Thread nD τ).loc main_arg6) : S128.Idx → EReal) (ix1 d)
abbrev ww : (Rows 2048 32).Idx → EReal := m ((c : Thread nD τ).loc main_arg7)

/-! ## The blocks of the windows -/

theorem first_index0 : ∀ t : Fin cfg0.N, win0_0.index t (0 : Fin 2) = t.val ∧ win0_0.index t (1 : Fin 2) = 0 :=
  (by decide +kernel : ∀ t : Fin grid0.N, _)
theorem first_index1 : ∀ t : Fin cfg0.N, win0_1.index t (0 : Fin 2) = 0 ∧ win0_1.index t (1 : Fin 2) = 0 :=
  (by decide +kernel : ∀ t : Fin grid0.N, _)
theorem first_index2 : ∀ t : Fin cfg0.N, win0_2.index t (0 : Fin 2) = 0 ∧ win0_2.index t (1 : Fin 2) = 0 :=
  (by decide +kernel : ∀ t : Fin grid0.N, _)
theorem first_index3 : ∀ t : Fin cfg0.N, win0_3.index t (0 : Fin 2) = 0 ∧ win0_3.index t (1 : Fin 2) = 0 :=
  (by decide +kernel : ∀ t : Fin grid0.N, _)
theorem first_index4 : ∀ t : Fin cfg0.N, win0_4.index t (0 : Fin 2) = 0 ∧ win0_4.index t (1 : Fin 2) = 0 :=
  (by decide +kernel : ∀ t : Fin grid0.N, _)
theorem first_index5 : ∀ t : Fin cfg0.N, win0_5.index t (0 : Fin 2) = 0 ∧ win0_5.index t (1 : Fin 2) = 0 :=
  (by decide +kernel : ∀ t : Fin grid0.N, _)
theorem first_index6 : ∀ t : Fin cfg0.N, win0_6.index t (0 : Fin 2) = 0 ∧ win0_6.index t (1 : Fin 2) = 0 :=
  (by decide +kernel : ∀ t : Fin grid0.N, _)
theorem first_index7 : ∀ t : Fin cfg0.N, win0_7.index t (0 : Fin 2) = t.val ∧ win0_7.index t (1 : Fin 2) = 0 :=
  (by decide +kernel : ∀ t : Fin grid0.N, _)
theorem first_index8 : ∀ t : Fin cfg0.N, win0_8.index t (0 : Fin 2) = t.val ∧ win0_8.index t (1 : Fin 2) = 0 :=
  (by decide +kernel : ∀ t : Fin grid0.N, _)

theorem first_points (t : Fin cfg0.N) : t.val < 4 := Nat.lt_of_lt_of_le t.isLt (by decide +kernel)

/-- Token `r` of block `t` of 1024. -/
def tokenOf (t : Fin cfg0.N) (r : Fin 1024) : Fin 4096 := ⟨1024 * t.val + r.val, by have := first_points t; omega⟩

theorem first_block0 (t : Fin cfg0.N) (r : Fin 1024) (k : Fin 2048) :
    (iblk0 (V1 m ρ) c 0 t : S1024x2048.Idx → EReal) (ix2 r k) = inputs m c (ix2 (tokenOf t r) k) := by
  obtain ⟨e0, e1⟩ := first_index0 t
  have h : ((cfg0.win 0).blk t).view.emb (ix2 r k : S1024x2048.Idx) = (ix2 (tokenOf t r) k : S4096x2048.Idx) := by
    funext a; apply Fin.ext
    match a with
    | ⟨0, _⟩ => show win0_0.index t (0 : Fin 2) * 1024 + 1 * r.val = 1024 * t.val + r.val; omega
    | ⟨1, _⟩ => show win0_0.index t (1 : Fin 2) * 2048 + 1 * k.val = k.val; omega
  show W1 m ρ c (Proc.devRef .tc main_arg1) (((cfg0.win 0).blk t).view.emb (ix2 r k : S1024x2048.Idx)) = _
  rw [h, W1_args m ρ c main_arg1 (by decide)]

theorem first_block1 (t : Fin cfg0.N) : (iblk0 (V1 m ρ) c 1 t : S2048x128.Idx → EReal) = wk m c := by
  obtain ⟨e0, e1⟩ := first_index1 t
  funext j
  have h : ((cfg0.win 1).blk t).view.emb (j : S2048x128.Idx) = (j : S2048x128.Idx) := by
    funext a; apply Fin.ext
    match a with
    | ⟨0, _⟩ => show win0_1.index t (0 : Fin 2) * 2048 + 1 * (j 0).val = (j 0).val; omega
    | ⟨1, _⟩ => show win0_1.index t (1 : Fin 2) * 128 + 1 * (j 1).val = (j 1).val; omega
  show W1 m ρ c (Proc.devRef .tc main_v24) (((cfg0.win 1).blk t).view.emb (j : S2048x128.Idx)) = _
  rw [h, key_weights]

theorem first_block2 (t : Fin cfg0.N) : (iblk0 (V1 m ρ) c 2 t : S2048x32.Idx → EReal) = ww m c := by
  obtain ⟨e0, e1⟩ := first_index2 t
  funext j
  have h : ((cfg0.win 2).blk t).view.emb (j : S2048x32.Idx) = (j : S2048x32.Idx) := by
    funext a; apply Fin.ext
    match a with
    | ⟨0, _⟩ => show win0_2.index t (0 : Fin 2) * 2048 + 1 * (j 0).val = (j 0).val; omega
    | ⟨1, _⟩ => show win0_2.index t (1 : Fin 2) * 32 + 1 * (j 1).val = (j 1).val; omega
  show W1 m ρ c (Proc.devRef .tc main_v25) (((cfg0.win 2).blk t).view.emb (j : S2048x32.Idx)) = _
  rw [h, head_weights]

theorem first_block3 (t : Fin cfg0.N) (d : Fin 128) : (iblk0 (V1 m ρ) c 3 t : S1x128.Idx → EReal) (ix2 0 d) = gain m c d := by
  obtain ⟨e0, e1⟩ := first_index3 t
  have h : ((cfg0.win 3).blk t).view.emb (ix2 0 d : S1x128.Idx) = (ix2 0 d : S1x128.Idx) := by
    funext a; apply Fin.ext
    match a with
    | ⟨0, _⟩ => show win0_3.index t (0 : Fin 2) * 1 + 1 * 0 = 0; omega
    | ⟨1, _⟩ => show win0_3.index t (1 : Fin 2) * 128 + 1 * d.val = d.val; omega
  show W1 m ρ c (Proc.devRef .tc main_v21) (((cfg0.win 3).blk t).view.emb (ix2 0 d : S1x128.Idx)) = _
  rw [h]
  exact gain_table_apply m ρ c d

theorem first_block4 (t : Fin cfg0.N) (d : Fin 128) : (iblk0 (V1 m ρ) c 4 t : S1x128.Idx → EReal) (ix2 0 d) = shift m c d := by
  obtain ⟨e0, e1⟩ := first_index4 t
  have h : ((cfg0.win 4).blk t).view.emb (ix2 0 d : S1x128.Idx) = (ix2 0 d : S1x128.Idx) := by
    funext a; apply Fin.ext
    match a with
    | ⟨0, _⟩ => show win0_4.index t (0 : Fin 2) * 1 + 1 * 0 = 0; omega
    | ⟨1, _⟩ => show win0_4.index t (1 : Fin 2) * 128 + 1 * d.val = d.val; omega
  show W1 m ρ c (Proc.devRef .tc main_v22) (((cfg0.win 4).blk t).view.emb (ix2 0 d : S1x128.Idx)) = _
  rw [h]
  exact shift_table_apply m ρ c d

theorem first_block5 (t : Fin cfg0.N) (r : Fin 1024) (d : Fin 128) :
    (iblk0 (V1 m ρ) c 5 t : S1024x128.Idx → EReal) (ix2 r d) = cosAt r.val d := by
  obtain ⟨e0, e1⟩ := first_index5 t
  have h : ((cfg0.win 5).blk t).view.emb (ix2 r d : S1024x128.Idx) = (ix2 r d : S1024x128.Idx) := by
    funext a; apply Fin.ext
    match a with
    | ⟨0, _⟩ => show win0_5.index t (0 : Fin 2) * 1024 + 1 * r.val = r.val; omega
    | ⟨1, _⟩ => show win0_5.index t (1 : Fin 2) * 128 + 1 * d.val = d.val; omega
  show W1 m ρ c (Proc.devRef .tc main_v17) (((cfg0.win 5).blk t).view.emb (ix2 r d : S1024x128.Idx)) = _
  rw [h]
  exact cos_table_apply m ρ c r d

theorem first_block6 (t : Fin cfg0.N) (r : Fin 1024) (d : Fin 128) :
    (iblk0 (V1 m ρ) c 6 t : S1024x128.Idx → EReal) (ix2 r d) = sinAt r.val d := by
  obtain ⟨e0, e1⟩ := first_index6 t
  have h : ((cfg0.win 6).blk t).view.emb (ix2 r d : S1024x128.Idx) = (ix2 r d : S1024x128.Idx) := by
    funext a; apply Fin.ext
    match a with
    | ⟨0, _⟩ => show win0_6.index t (0 : Fin 2) * 1024 + 1 * r.val = r.val; omega
    | ⟨1, _⟩ => show win0_6.index t (1 : Fin 2) * 128 + 1 * d.val = d.val; omega
  show W1 m ρ c (Proc.devRef .tc main_v20) (((cfg0.win 6).blk t).view.emb (ix2 r d : S1024x128.Idx)) = _
  rw [h]
  exact sin_table_apply m ρ c r d

theorem first_block7 (t : Fin cfg0.N) (j : S1024x128.Idx) :
    ((cfg0.win 7).blk t).view.emb j = (ix2 (tokenOf t (j 0)) (j 1) : S4096x128.Idx) := by
  obtain ⟨e0, e1⟩ := first_index7 t
  funext a; apply Fin.ext
  match a with
  | ⟨0, _⟩ => show win0_7.index t (0 : Fin 2) * 1024 + 1 * (j 0).val = 1024 * t.val + (j 0).val; omega
  | ⟨1, _⟩ => show win0_7.index t (1 : Fin 2) * 128 + 1 * (j 1).val = (j 1).val; omega

theorem first_block8 (t : Fin cfg0.N) (j : S1024x32.Idx) :
    ((cfg0.win 8).blk t).view.emb j = (ix2 (tokenOf t (j 0)) (j 1) : S4096x32.Idx) := by
  obtain ⟨e0, e1⟩ := first_index8 t
  funext a; apply Fin.ext
  match a with
  | ⟨0, _⟩ => show win0_8.index t (0 : Fin 2) * 1024 + 1 * (j 0).val = 1024 * t.val + (j 0).val; omega
  | ⟨1, _⟩ => show win0_8.index t (1 : Fin 2) * 32 + 1 * (j 1).val = (j 1).val; omega

/-! ## The arrays -/

/-- Every token's key. -/
def keys : S4096x128.Idx → EReal := fun i => keyRow (inputs m c) (wk m c) (gain m c) (shift m c) (i 0) (i 1)

/-- Every token's head weights. -/
def headWeights : S4096x32.Idx → EReal := fun i => headWeight (inputs m c) (ww m c) (i 0) (i 1)

theorem rowDot_first (t : Fin cfg0.N) {N : ℕ} (w : (Rows 2048 N).Idx → EReal) (r : Fin 1024) :
    rowDot (iblk0 (V1 m ρ) c 0 t : S1024x2048.Idx → EReal) w r = rowDot (inputs m c) w (tokenOf t r) :=
  funext fun n => Finset.sum_congr rfl fun k _ => congrArg (· * w (ix2 k n)) (first_block0 m ρ c t r k)

theorem keys_flushed (h1 : ∀ i, IsReal (inputs m c i)) (h4 : ∀ i, IsReal (wk m c i)) (t : Fin cfg0.N) :
    (dat0 (V1 m ρ) c).flushed 7 t = ((cfg0.win 7).blk t).view.read (Elt Ideal) (keys m c) := by
  show (cfg0.win 7).cut (cfg0.grid.coords t) ((dat0 (V1 m ρ) c).after 7 t) = _
  rw [after0_7]
  funext j
  show out0_7 (F := Ideal) _ _ _ _ _ _ _ (j : S1024x128.Idx) = keys m c (((cfg0.win 7).blk t).view.emb j)
  rw [first_block7]
  obtain ⟨r, d, rfl⟩ : ∃ (r : Fin 1024) (d : Fin 128), j = (ix2 r d : S1024x128.Idx) := ⟨j 0, j 1, eq_ix2 j⟩
  have hy : ∀ d, IsReal (rowDot (iblk0 (V1 m ρ) c 0 t : S1024x2048.Idx → EReal) (iblk0 (V1 m ρ) c 1 t : S2048x128.Idx → EReal) r d) := by
    rw [rowDot_first, first_block1]
    exact rowDot_real _ _ h1 h4 _
  refine (keyBlock_apply _ _ _ _ _ _ _ r d hy r.val (first_block5 m ρ c t r) (first_block6 m ρ c t r)).trans ?_
  rw [rowDot_first, first_block1, funext (first_block3 m ρ c t), funext (first_block4 m ρ c t)]
  have e : r.val = (tokenOf t r).val % 1024 := by
    have := r.isLt
    show r.val = (1024 * t.val + r.val) % 1024
    omega
  exact congrArg (fun l => turned l (normed (rowDot (inputs m c) (wk m c) (tokenOf t r)) (gain m c) (shift m c)) d) e

theorem weights_flushed (t : Fin cfg0.N) :
    (dat0 (V1 m ρ) c).flushed 8 t = ((cfg0.win 8).blk t).view.read (Elt Ideal) (headWeights m c) := by
  show (cfg0.win 8).cut (cfg0.grid.coords t) ((dat0 (V1 m ρ) c).after 8 t) = _
  rw [after0_8]
  funext j
  show out0_8 (F := Ideal) _ _ _ _ _ _ _ (j : S1024x32.Idx) = headWeights m c (((cfg0.win 8).blk t).view.emb j)
  rw [first_block8]
  obtain ⟨r, h, rfl⟩ : ∃ (r : Fin 1024) (h : Fin 32), j = (ix2 r h : S1024x32.Idx) := ⟨j 0, j 1, eq_ix2 j⟩
  refine (weightBlock_apply _ _ _ _ _ _ _ r h).trans ?_
  rw [rowDot_first, first_block2]
  rfl

theorem keys_cover (i : S4096x128.Idx) :
    ∃ t : Fin cfg0.N, (cfg0.win 7).flush t = true ∧ i ∈ ((cfg0.win 7).blk t).view.set := by
  have hi : (i 0).val < 4096 := (i 0).isLt
  have ht : (i 0).val / 1024 < cfg0.N := Nat.lt_of_lt_of_le (by omega : (i 0).val / 1024 < 4) (by decide +kernel)
  refine ⟨⟨(i 0).val / 1024, ht⟩, flush0_7 _, ?_⟩
  have h := ((cfg0.win 7).blk ⟨(i 0).val / 1024, ht⟩).view.emb_mem_set
    (ix2 (⟨(i 0).val % 1024, by omega⟩ : Fin 1024) (i 1) : S1024x128.Idx)
  rw [first_block7] at h
  have e : (ix2 (tokenOf ⟨(i 0).val / 1024, ht⟩ ⟨(i 0).val % 1024, by omega⟩) (i 1) : S4096x128.Idx) = i := by
    refine (congrArg (fun z : Fin 4096 => (ix2 z (i 1) : S4096x128.Idx)) (Fin.ext ?_)).trans (eq_ix2 i).symm
    show 1024 * ((i 0).val / 1024) + (i 0).val % 1024 = (i 0).val
    omega
  exact Eq.mp (congrArg (fun z : S4096x128.Idx => z ∈ ((cfg0.win 7).blk ⟨(i 0).val / 1024, ht⟩).view.set) e) h

theorem weights_cover (i : S4096x32.Idx) :
    ∃ t : Fin cfg0.N, (cfg0.win 8).flush t = true ∧ i ∈ ((cfg0.win 8).blk t).view.set := by
  have hi : (i 0).val < 4096 := (i 0).isLt
  have ht : (i 0).val / 1024 < cfg0.N := Nat.lt_of_lt_of_le (by omega : (i 0).val / 1024 < 4) (by decide +kernel)
  refine ⟨⟨(i 0).val / 1024, ht⟩, flush0_8 _, ?_⟩
  have h := ((cfg0.win 8).blk ⟨(i 0).val / 1024, ht⟩).view.emb_mem_set
    (ix2 (⟨(i 0).val % 1024, by omega⟩ : Fin 1024) (i 1) : S1024x32.Idx)
  rw [first_block8] at h
  have e : (ix2 (tokenOf ⟨(i 0).val / 1024, ht⟩ ⟨(i 0).val % 1024, by omega⟩) (i 1) : S4096x32.Idx) = i := by
    refine (congrArg (fun z : Fin 4096 => (ix2 z (i 1) : S4096x32.Idx)) (Fin.ext ?_)).trans (eq_ix2 i).symm
    show 1024 * ((i 0).val / 1024) + (i 0).val % 1024 = (i 0).val
    omega
  exact Eq.mp (congrArg (fun z : S4096x32.Idx => z ∈ ((cfg0.win 8).blk ⟨(i 0).val / 1024, ht⟩).view.set) e) h

/-- After the first kernel the keys' array holds every token's key. -/
theorem keys_array (h1 : ∀ i, IsReal (inputs m c i)) (h4 : ∀ i, IsReal (wk m c i)) :
    W2 m ρ c (Proc.devRef .tc main_v26_0) = keys m c :=
  (W2_arr m ρ c 7).trans
    ((dat0 (V1 m ρ) c).arrAt_eq_of_cover 7 (keys m c) (fun t _ => keys_flushed m ρ c h1 h4 t) keys_cover)

/-- After the first kernel the weights' array holds every token's head weights. -/
theorem weights_array : W2 m ρ c (Proc.devRef .tc main_v26_1) = headWeights m c :=
  (W2_arr m ρ c 8).trans
    ((dat0 (V1 m ρ) c).arrAt_eq_of_cover 8 (headWeights m c) (fun t _ => weights_flushed m ρ c t) weights_cover)

end Indexer
-- ==== Proof.TopRow.lean ====
/- One row of the result. A row's scores stand at `len` places of the 4096, from `seg0` on, and everything else is masked to `⊥`.
   The kernel sorts only the first `n` scores of the segment and fills the rest of the row by counting the masked places from the
   left; this module shows that the stable top-k of the whole row gives the same places. -/
module

public import proofs.«01_k».proof.Proof.Stage
public import Idealize.ShloMosaic.Lib.SortPrefix

@[expose] public section

noncomputable section

namespace Indexer

open Idealize.ShloMosaic

/-- Two comparisons that agree on every later element against every earlier one sort a list alike. -/
theorem insertBefore_agree {ι : Type} (R R' : ι → ι → Bool) (a : ι) : ∀ l : List ι, (∀ b ∈ l, R b a = R' b a) →
    insertBefore R a l = insertBefore R' a l
  | [], _ => rfl
  | b :: l, h => by
    rw [insertBefore, insertBefore, h b (by simp), insertBefore_agree R R' a l fun c hc => h c (by simp [hc])]

theorem stableSort_agree {ι : Type} (R R' : ι → ι → Bool) : ∀ l : List ι, l.Pairwise (fun a b => R b a = R' b a) →
    stableSort R l = stableSort R' l
  | [], _ => rfl
  | a :: l, h => by
    rw [List.pairwise_cons] at h
    rw [stableSort, stableSort, stableSort_agree R R' l h.2]
    exact insertBefore_agree R R' a _ fun b hb => h.1 b ((perm_stableSort R' l).mem_iff.mp hb)

/-- An element of the row as an entry: its value, then the smaller place. -/
def place {N : ℕ} (x : Fin N → EReal) (s : Fin N) : Entry := toLex (x s, OrderDual.toDual (s.val : ℤ))

theorem place_le {N : ℕ} (x : Fin N → EReal) (s t : Fin N) :
    place x s ≤ place x t ↔ x s < x t ∨ x s = x t ∧ t.val ≤ s.val := by
  rw [place, place, Prod.Lex.toLex_le_toLex, OrderDual.toDual_le_toDual, Nat.cast_le]

theorem place_lt {N : ℕ} (x : Fin N → EReal) (s t : Fin N) :
    place x s < place x t ↔ x s < x t ∨ x s = x t ∧ t.val < s.val := by
  rw [place, place, Prod.Lex.toLex_lt_toLex, OrderDual.toDual_lt_toDual, Nat.cast_lt]

theorem place_injective {N : ℕ} (x : Fin N → EReal) : Function.Injective (place x) := fun s t h => by
  have h' := congrArg (fun e : Entry => (OrderDual.ofDual (ofLex e).2)) h
  exact Fin.ext (Nat.cast_injective (R := ℤ) h')

/-- A stable sort by descending value orders the places by their entries. -/
theorem sortedFrom_place {N : ℕ} (x : Fin N → EReal) :
    sortedFrom (fun s t => decide (x t < x s)) = sortedFrom fun s t => decide (place x t < place x s) := by
  have h : sortPositions N (fun s t => decide (x t < x s)) = sortPositions N fun s t => decide (place x t < place x s) := by
    refine stableSort_agree _ _ _ ?_
    refine (List.pairwise_lt_finRange N).imp fun {a b} hab => decide_eq_decide.mpr ?_
    rw [place_lt]
    have : ¬ b.val < a.val := by omega
    tauto
  funext k
  have hget : ∀ (l l' : List (Fin N)) (hl : N = l.length) (hl' : N = l'.length), l = l' → l.get (k.cast hl) = l'.get (k.cast hl') :=
    fun l l' _ _ e => by subst e; rfl
  exact hget _ _ _ _ h

theorem before_total {N : ℕ} (x : Fin N → EReal) : StrictTotalBefore fun s t => decide (place x t < place x s) where
  irrefl a := by simp
  trans a b c hab hbc := by
    simp only [decide_eq_true_eq] at *
    exact hbc.trans hab
  total a b hne := by
    simp only [decide_eq_true_eq]
    exact lt_or_gt_of_ne fun h => hne (place_injective x h).symm

variable {n len : ℕ}

/-- The sorted entries that carry a score are exactly the first `len`. -/
theorem scored_first (v : Fin n → EReal) (hv : ∀ i, v i = ⊥ ↔ len ≤ i.val) (hlen : len ≤ n) (σ : Equiv.Perm (Fin n))
    (hσ : Antitone (place v ∘ σ)) (q : Fin n) : (σ q).val < len ↔ q.val < len := by
  have hval : ∀ q q' : Fin n, q ≤ q' → v (σ q') ≤ v (σ q) := fun q q' h => by
    rcases (place_le v _ _).mp (hσ h) with h | h
    · exact h.le
    · exact h.1.le
  have hdown : ∀ q q' : Fin n, q ≤ q' → (σ q').val < len → (σ q).val < len := fun q q' h h' => by
    by_contra hge
    have h1 := (hv (σ q)).mpr (by omega)
    have h2 := hval q q' h
    rw [h1, le_bot_iff] at h2
    have := (hv (σ q')).mp h2
    omega
  constructor
  · intro h
    have hc := Finset.card_le_card_of_injOn (s := Finset.Iic q) (t := (Finset.univ : Finset (Fin n)).filter fun i => i.val < len)
      σ (fun a ha => by simpa using hdown a q (by simpa using ha) h) σ.injective.injOn
    rw [Fin.card_Iic, Fin.card_filter_val_lt] at hc
    omega
  · intro h
    by_contra hge
    have hc := Finset.card_le_card_of_injOn (s := Finset.Ici q) (t := (Finset.univ : Finset (Fin n)).filter fun i => ¬ i.val < len)
      σ (fun a ha => by
        have ha' : q ≤ a := by simpa using ha
        simpa using fun hlt => hge (hdown q a ha' hlt)) σ.injective.injOn
    have hsum := Finset.card_filter_add_card_filter_not (s := (Finset.univ : Finset (Fin n))) (fun i => i.val < len)
    rw [Fin.card_filter_val_lt, Finset.card_univ, Fintype.card_fin] at hsum
    rw [Fin.card_Ici] at hc
    omega

/-- The place the kernel names for output `q` of a row. -/
def pick (seg0 : ℕ) (len : ℕ) (hlen : len ≤ n) (σ : Fin n → Fin n) (q : ℕ) : ℕ :=
  if h : q < len then seg0 + (σ ⟨q, lt_of_lt_of_le h hlen⟩).val else if q - len < seg0 then q - len else q

/-- THE ROW: a stable top-k of `N` masked scores takes its places from the sort of the segment alone. -/
theorem top_row {N K : ℕ} (hK : K ≤ N) (hn : n ≤ K) (seg0 : ℕ) (hlen : len ≤ n) (hseg : seg0 + len ≤ N)
    (v : Fin n → EReal) (hv : ∀ i, v i = ⊥ ↔ len ≤ i.val) (σ : Equiv.Perm (Fin n)) (hσ : Antitone (place v ∘ σ))
    (x : Fin N → EReal) (hin : ∀ (s : Fin N) (i : Fin n), s.val = seg0 + i.val → i.val < len → x s = v i)
    (hout : ∀ s : Fin N, s.val < seg0 ∨ seg0 + len ≤ s.val → x s = ⊥) (q : Fin K) :
    (sortedFrom (fun s t => decide (x t < x s)) (q.castLE hK)).val = pick seg0 len hlen σ q
      ∧ x (sortedFrom (fun s t => decide (x t < x s)) (q.castLE hK))
          = if h : q.val < len then v (σ ⟨q, lt_of_lt_of_le h hlen⟩) else ⊥ := by
  have hpos : ∀ (q : ℕ) (h : q < len), (σ ⟨q, lt_of_lt_of_le h hlen⟩).val < len := fun q h =>
    (scored_first v hv hlen σ hσ _).mpr h
  have hlt : ∀ q : Fin K, pick seg0 len hlen σ q < N := fun q => by
    have hq := q.isLt
    unfold pick
    split_ifs with h h'
    · have := hpos q h
      omega
    · omega
    · omega
  let τ : Fin K → Fin N := fun q => ⟨pick seg0 len hlen σ q, hlt q⟩
  have hin' : ∀ (q : Fin K) (h : q.val < len), x (τ q) = v (σ ⟨q, lt_of_lt_of_le h hlen⟩) := fun q h =>
    hin _ _ (by show pick seg0 len hlen σ q = _; rw [pick, dif_pos h]) (hpos q h)
  have hout' : ∀ (q : Fin K), ¬ q.val < len → x (τ q) = ⊥ := fun q h => hout _ (by
    show pick seg0 len hlen σ q < seg0 ∨ seg0 + len ≤ pick seg0 len hlen σ q
    rw [pick, dif_neg h]
    split_ifs <;> omega)
  have hτ : ∀ q : Fin K, (τ q).val = pick seg0 len hlen σ q := fun _ => rfl
  have hmain : sortedFrom (fun s t => decide (x t < x s)) (q.castLE hK) = τ q := by
    rw [sortedFrom_place]
    refine (before_total x).sortedFrom_eq_of_prefix hK τ ?_ ?_ ?_ q
    · intro a b hab
      have hab' : pick seg0 len hlen σ a = pick seg0 len hlen σ b := congrArg Fin.val hab
      have ha := hpos a
      have hb := hpos b
      unfold pick at hab'
      by_cases h1 : a.val < len <;> by_cases h2 : b.val < len
      · rw [dif_pos h1, dif_pos h2] at hab'
        have e := σ.injective (Fin.ext (Nat.add_left_cancel hab'))
        exact Fin.ext (Fin.mk.inj e)
      · have := ha h1
        rw [dif_pos h1, dif_neg h2] at hab'
        split_ifs at hab' <;> omega
      · have := hb h2
        rw [dif_neg h1, dif_pos h2] at hab'
        split_ifs at hab' <;> omega
      · rw [dif_neg h1, dif_neg h2] at hab'
        split_ifs at hab' <;> exact Fin.ext (by omega)
    · intro i j hij
      have hij' : i.val < j.val := hij
      refine decide_eq_false (not_lt.mpr ((place_le x _ _).mpr ?_))
      by_cases h1 : i.val < len <;> by_cases h2 : j.val < len
      · have h := hσ (show (⟨i, lt_of_lt_of_le h1 hlen⟩ : Fin n) ≤ ⟨j, lt_of_lt_of_le h2 hlen⟩ from hij'.le)
        rw [Function.comp_apply, Function.comp_apply, place_le] at h
        rw [hin' i h1, hin' j h2, hτ, hτ, pick, pick, dif_pos h1, dif_pos h2]
        refine h.imp_right fun h => ⟨h.1, by omega⟩
      · left
        rw [hin' i h1, hout' j h2, bot_lt_iff_ne_bot]
        intro hb
        have := (hv _).mp hb
        have := hpos i h1
        omega
      · omega
      · right
        rw [hout' i h1, hout' j h2, hτ, hτ, pick, pick, dif_neg h1, dif_neg h2]
        refine ⟨rfl, ?_⟩
        split_ifs <;> omega
    · intro i p hp
      refine decide_eq_false (not_lt.mpr ((place_le x _ _).mpr ?_))
      have hseg' : p.val < seg0 ∨ seg0 + len ≤ p.val := by
        by_contra hc
        have hpn : p.val - seg0 < n := by omega
        have hq := (scored_first v hv hlen σ hσ (σ.symm ⟨p.val - seg0, hpn⟩)).mp (by
          rw [Equiv.apply_symm_apply]
          show p.val - seg0 < len
          omega)
        refine hp ⟨(σ.symm ⟨p.val - seg0, hpn⟩).val, by omega⟩ (Fin.ext ?_)
        rw [hτ, pick, dif_pos hq]
        show seg0 + (σ (σ.symm ⟨p.val - seg0, hpn⟩)).val = p.val
        rw [Equiv.apply_symm_apply]
        show seg0 + (p.val - seg0) = p.val
        omega
      rw [hout p hseg']
      by_cases h1 : i.val < len
      · left
        rw [hin' i h1, bot_lt_iff_ne_bot]
        intro hb
        have := (hv _).mp hb
        have := hpos i h1
        omega
      · right
        rw [hout' i h1, hτ, pick, dif_neg h1]
        refine ⟨rfl, ?_⟩
        have hi := i.isLt
        rcases hseg' with hs | hs
        · have hge : K ≤ p.val + len := by
            by_contra hc
            refine hp ⟨p.val + len, by omega⟩ (Fin.ext ?_)
            rw [hτ, pick, dif_neg (by show ¬ p.val + len < len; omega), if_pos (by show p.val + len - len < seg0; omega)]
            show p.val + len - len = p.val
            omega
          split_ifs <;> omega
        · have hge : K ≤ p.val := by
            by_contra hc
            refine hp ⟨p.val, by omega⟩ (Fin.ext ?_)
            rw [hτ, pick, dif_neg (by show ¬ p.val < len; omega), if_neg (by show ¬ p.val - len < seg0; omega)]
          split_ifs <;> omega
  rw [hmain]
  refine ⟨rfl, ?_⟩
  split_ifs with h
  · exact hin' q h
  · exact hout' q h

end Indexer

end
-- ==== Proof.EmitRead.lean ====
/- The rows of results a grid point stores, read off: the sorted column's entries while the query sees keys, and after them
   the numbers a stable sort of the whole row of scores would go on with. -/
module

public import proofs.«01_k».proof.Proof.Emit
public import proofs.«01_k».proof.Proof.TopRow
public import Idealize.ShloMosaic.Lib.WordCmp
public import Mathlib.Data.BitVec

@[expose] public section

noncomputable section

namespace Indexer

open Idealize.ShloMosaic Idealize.ShloMosaic.ValueIdx Idealize.ShloMosaic.SortNet WordCmp

theorem rowIota_apply {n r : ℕ} (i : Fin n) (j : Fin r) : rowIota n r (ix2 i j) = BitVec.ofNat 32 i.val :=
  iota_single_apply _ _ _ _ _ _

theorem laneIota_apply {n r : ℕ} (i : Fin n) (j : Fin r) : laneIota n r (ix2 i j) = BitVec.ofNat 32 j.val :=
  iota_single_apply _ _ _ _ _ _

theorem swap_apply {α : Type} {n : ℕ} (x : (Rows n 256).Idx → α) (i : Fin n) (j : Fin 256) :
    transpose (Rows 256 n) [1, 0] x (swaps_rows n) (ix2 j i) = x (ix2 i j) :=
  transpose_apply _ _ _ _ _ fun b => by
    match b with
    | ⟨0, _⟩ => rfl
    | ⟨1, _⟩ => rfl

theorem pads_left {α : Type} {n : ℕ} (hn : n ≤ 2048) (x : (Rows 256 n).Idx → α) (y : (Rows 256 (2048 - n)).Idx → α)
    (r : Fin 256) (q : Fin 2048) (h : q.val < n) :
    concatenate (Rows 256 2048) 1 [⟨Rows 256 n, x⟩, ⟨Rows 256 (2048 - n), y⟩] (pads_concat hn) (ix2 r q) = x (ix2 r ⟨q.val, h⟩) :=
  concatenate_pair_apply_left (t := Rows 256 2048) (s₁ := Rows 256 n) (s₂ := Rows 256 (2048 - n)) 1 x y _ _ rfl _ fun b => by
    match b with
    | ⟨0, _⟩ => rfl
    | ⟨1, _⟩ => rfl

theorem pads_right {α : Type} {n : ℕ} (hn : n ≤ 2048) (x : (Rows 256 n).Idx → α) (y : (Rows 256 (2048 - n)).Idx → α)
    (r : Fin 256) (q : Fin 2048) (h : n ≤ q.val) :
    concatenate (Rows 256 2048) 1 [⟨Rows 256 n, x⟩, ⟨Rows 256 (2048 - n), y⟩] (pads_concat hn) (ix2 r q)
      = y (ix2 r ⟨q.val - n, by omega⟩) :=
  concatenate_pair_apply_right (t := Rows 256 2048) (s₁ := Rows 256 n) (s₂ := Rows 256 (2048 - n)) 1 x y _ _ rfl rfl _
    (fun b hb => by
      match b with
      | ⟨0, _⟩ => rfl
      | ⟨1, _⟩ => exact absurd rfl hb)
    (by show q.val - n + n = q.val; omega)

/-- A choice by a signed comparison of two small numbers. -/
theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [cmpi_slt_ofNat ha hb]
  by_cases h : a < b
  · rw [if_pos h, decide_eq_true h]; rfl
  · rw [if_neg h, decide_eq_false h]; rfl

theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [cmpi_sle_ofNat ha hb]
  by_cases h : a ≤ b
  · rw [if_pos h, decide_eq_true h]; rfl
  · rw [if_neg h, decide_eq_false h]; rfl

theorem ofNat_sub {a b : ℕ} (h : b ≤ a) : BitVec.ofNat 32 a - BitVec.ofNat 32 b = BitVec.ofNat 32 (a - b) := by
  obtain ⟨d, rfl⟩ := Nat.exists_eq_add_of_le h
  rw [Nat.add_sub_cancel_left, BitVec.ofNat_add]
  ring

/-- The number after the keys a query may see: the place less their count, while that is before the segment; then the place. -/
theorem pad_word {s t q : ℕ} (hs : s < 2 ^ 31) (hq : q < 2 ^ 31) (ht : t + 1 ≤ q) :
    Scalar.select (IntOp.cmpi .slt (BitVec.ofNat 32 q - (BitVec.ofNat 32 t + 1#32)) (BitVec.ofNat 32 s))
        (BitVec.ofNat 32 q - (BitVec.ofNat 32 t + 1#32))
        (BitVec.ofNat 32 s + BitVec.ofNat 32 t + 1#32 + (BitVec.ofNat 32 q - (BitVec.ofNat 32 t + 1#32)) - BitVec.ofNat 32 s)
      = BitVec.ofNat 32 (if q - (t + 1) < s then q - (t + 1) else q) := by
  have e : BitVec.ofNat 32 t + 1#32 = BitVec.ofNat 32 (t + 1) := by rw [BitVec.ofNat_add]
  have e2 : BitVec.ofNat 32 s + BitVec.ofNat 32 t + 1#32 + (BitVec.ofNat 32 q - (BitVec.ofNat 32 t + 1#32)) - BitVec.ofNat 32 s
      = BitVec.ofNat 32 q := by ring
  rw [e2, e, ofNat_sub ht, select_slt (by omega) hs]
  split_ifs <;> rfl

section Block
variable {p : ℕ} (kb : FVec Ideal (Rows (2 ^ p) 128) .bf16) (q : FVec Ideal (Rows 256 4096) .bf16)
  (wt : FVec Ideal (Rows 32 256) .f32) (neg : Ideal .f32) (a b : ℕ)

/-- The score of key `i` for the query in lane `r`. -/
def score (r : Fin 256) (i : Fin (2 ^ p)) : EReal :=
  headSum p kb q wt 32 le_rfl (ix2 i r) * Ideal.ofBits .f32 0x3DB504F3#32

theorem lanePlace_apply (i : Fin (2 ^ p)) (r : Fin 256) :
    lanePlace p (BitVec.ofNat 32 a) (ix2 i r) = BitVec.ofNat 32 (a + r.val) := by
  show BitVec.ofNat 32 a + laneIota (2 ^ p) 256 (ix2 i r) = _
  rw [laneIota_apply, BitVec.ofNat_add]

theorem laneSeen_apply (i : Fin (2 ^ p)) (r : Fin 256) :
    laneSeen p (BitVec.ofNat 32 a) (ix2 i r) = BitVec.ofNat 32 (a + r.val + 1) := by
  show lanePlace p (BitVec.ofNat 32 a) (ix2 i r) + 1#32 = _
  rw [lanePlace_apply, BitVec.ofNat_add (a + r.val) 1]

/-- The masked score. -/
theorem maskedScores_apply (hp : 2 ^ p ≤ 2048) (ha : a ≤ 2048) (i : Fin (2 ^ p)) (r : Fin 256) :
    maskedScores p kb q wt neg (BitVec.ofNat 32 a) (ix2 i r) = if i.val ≤ a + r.val then score kb q wt r i else neg := by
  have hi := i.isLt
  have hr := r.isLt
  unfold maskedScores
  rw [select_apply]
  show Scalar.select (IntOp.cmpi .sle (rowIota (2 ^ p) 256 (ix2 i r)) (lanePlace p (BitVec.ofNat 32 a) (ix2 i r))) (score kb q wt r i) neg = _
  rw [rowIota_apply, lanePlace_apply, select_sle (by omega) (by omega)]

/-- The sorted column of lane `r`, as a rearrangement of the masked scores. -/
theorem sortedPair_apply (hp : 2 ^ p ≤ 2048) (hp' : p ≤ 31) (ha : a ≤ 2048) (r : Fin 256) (v : Fin (2 ^ p) → EReal)
    (hv : ∀ i, v i = if i.val ≤ a + r.val then score kb q wt r i else neg) :
    ∃ σ : Equiv.Perm (Fin (2 ^ p)), Antitone (place v ∘ σ)
      ∧ ∀ i, (sortedPair p kb q wt neg (BitVec.ofNat 32 a)).1 (ix2 i r) = v (σ i)
        ∧ (sortedPair p kb q wt neg (BitVec.ofNat 32 a)).2 (ix2 i r) = BitVec.ofNat 32 (σ i).val := by
  obtain ⟨σ, hσ⟩ := column_permuted hp' (maskedScores p kb q wt neg (BitVec.ofNat 32 a), rowIota (2 ^ p) 256) r
  have hsort := column_sorted hp' (maskedScores p kb q wt neg (BitVec.ofNat 32 a), rowIota (2 ^ p) 256) r
  have hcol : ∀ i, column (maskedScores p kb q wt neg (BitVec.ofNat 32 a)) (rowIota (2 ^ p) 256) r i = place v i := fun i => by
    have hi := i.isLt
    unfold column entry place
    rw [maskedScores_apply kb q wt neg a hp ha, rowIota_apply, ← hv, toInt_ofNat_of_lt (w := 32) (show (_ : ℕ) < 2 ^ 31 by omega)]
  have hcol' : column (maskedScores p kb q wt neg (BitVec.ofNat 32 a)) (rowIota (2 ^ p) 256) r = place v := funext hcol
  rw [hcol'] at hσ
  refine ⟨σ, hσ ▸ hsort, fun i => ?_⟩
  have h := congrFun hσ i
  have h1 : (ofLex (column (sortedPair p kb q wt neg (BitVec.ofNat 32 a)).1 (sortedPair p kb q wt neg (BitVec.ofNat 32 a)).2 r i)).1
      = (ofLex (place v (σ i))).1 := congrArg (fun e : Entry => (ofLex e).1) h
  have h2 : OrderDual.ofDual (ofLex (column (sortedPair p kb q wt neg (BitVec.ofNat 32 a)).1 (sortedPair p kb q wt neg (BitVec.ofNat 32 a)).2 r i)).2
      = OrderDual.ofDual (ofLex (place v (σ i))).2 := congrArg (fun e : Entry => OrderDual.ofDual (ofLex e).2) h
  have hi := (σ i).isLt
  refine ⟨h1, BitVec.eq_of_toInt_eq ?_⟩
  rw [toInt_ofNat_of_lt (w := 32) (show (_ : ℕ) < 2 ^ 31 by omega)]
  exact h2

/-- A stored value: the sorted column's entry while the query sees keys, then the mask. -/
theorem emitValues_apply (hp : 2 ^ p ≤ 2048) (r : Fin 256) (ha : a + r.val + 1 ≤ 2 ^ p) (w : Fin 2048) :
    emitValues p kb q wt neg (BitVec.ofNat 32 a) hp (ix2 r w)
      = if h : w.val < a + r.val + 1 then
          (sortedPair p kb q wt neg (BitVec.ofNat 32 a)).1 (ix2 ⟨w.val, lt_of_lt_of_le h ha⟩ r)
        else neg := by
  unfold emitValues
  by_cases hw : w.val < 2 ^ p
  · rw [pads_left hp _ _ r w hw, swap_apply, select_apply]
    show Scalar.select (IntOp.cmpi .slt (rowIota (2 ^ p) 256 (ix2 ⟨w.val, hw⟩ r)) (laneSeen p (BitVec.ofNat 32 a) (ix2 ⟨w.val, hw⟩ r)))
      ((sortedPair p kb q wt neg (BitVec.ofNat 32 a)).1 (ix2 ⟨w.val, hw⟩ r)) neg = _
    rw [rowIota_apply, laneSeen_apply, select_slt (by omega) (by omega)]
    split_ifs <;> rfl
  · rw [pads_right hp _ _ r w (by omega), dif_neg (by omega)]
    rfl

/-- A stored key number: the sorted column's entry, moved to the segment, while the query sees keys, then the number after them. -/
theorem emitRows_apply (hp : 2 ^ p ≤ 2048) (hb : b < 2 ^ 31) (r : Fin 256) (ha : a + r.val + 1 ≤ 2 ^ p) (w : Fin 2048) :
    emitRows p kb q wt neg (BitVec.ofNat 32 a) (BitVec.ofNat 32 b) hp (ix2 r w)
      = if h : w.val < a + r.val + 1 then
          (sortedPair p kb q wt neg (BitVec.ofNat 32 a)).2 (ix2 ⟨w.val, lt_of_lt_of_le h ha⟩ r) + BitVec.ofNat 32 b
        else BitVec.ofNat 32 (if w.val - (a + r.val + 1) < b then w.val - (a + r.val + 1) else w.val) := by
  have hw' := w.isLt
  unfold emitRows
  by_cases hw : w.val < 2 ^ p
  · rw [pads_left hp _ _ r w hw, swap_apply, select_apply]
    show Scalar.select (IntOp.cmpi .slt (rowIota (2 ^ p) 256 (ix2 ⟨w.val, hw⟩ r)) (laneSeen p (BitVec.ofNat 32 a) (ix2 ⟨w.val, hw⟩ r)))
      ((sortedPair p kb q wt neg (BitVec.ofNat 32 a)).2 (ix2 ⟨w.val, hw⟩ r) + BitVec.ofNat 32 b)
      (padRows p (BitVec.ofNat 32 a) (BitVec.ofNat 32 b) (ix2 ⟨w.val, hw⟩ r)) = _
    rw [rowIota_apply, laneSeen_apply, select_slt (by omega) (by omega)]
    by_cases h : w.val < a + r.val + 1
    · rw [if_pos h, dif_pos h]
    · rw [if_neg h, dif_neg h]
      unfold padRows
      rw [select_apply]
      show Scalar.select (IntOp.cmpi .slt (rowIota (2 ^ p) 256 (ix2 ⟨w.val, hw⟩ r) - (lanePlace p (BitVec.ofNat 32 a) (ix2 ⟨w.val, hw⟩ r) + 1#32)) (BitVec.ofNat 32 b))
        (rowIota (2 ^ p) 256 (ix2 ⟨w.val, hw⟩ r) - (lanePlace p (BitVec.ofNat 32 a) (ix2 ⟨w.val, hw⟩ r) + 1#32))
        (BitVec.ofNat 32 b + lanePlace p (BitVec.ofNat 32 a) (ix2 ⟨w.val, hw⟩ r) + 1#32
          + (rowIota (2 ^ p) 256 (ix2 ⟨w.val, hw⟩ r) - (lanePlace p (BitVec.ofNat 32 a) (ix2 ⟨w.val, hw⟩ r) + 1#32)) - BitVec.ofNat 32 b) = _
      rw [rowIota_apply, lanePlace_apply]
      exact pad_word hb (by show w.val < _; omega) (by show _ ≤ w.val; omega)
  · rw [pads_right hp _ _ r w (by omega), dif_neg (by omega)]
    unfold padRest
    rw [select_apply]
    show Scalar.select (IntOp.cmpi .slt (restPast p (BitVec.ofNat 32 a) (2048 - 2 ^ p) (ix2 r ⟨w.val - 2 ^ p, by omega⟩)) (BitVec.ofNat 32 b))
      (restPast p (BitVec.ofNat 32 a) (2048 - 2 ^ p) (ix2 r ⟨w.val - 2 ^ p, by omega⟩))
      (BitVec.ofNat 32 b + (BitVec.ofNat 32 a + rowIota 256 (2048 - 2 ^ p) (ix2 r ⟨w.val - 2 ^ p, by omega⟩)) + 1#32
        + restPast p (BitVec.ofNat 32 a) (2048 - 2 ^ p) (ix2 r ⟨w.val - 2 ^ p, by omega⟩) - BitVec.ofNat 32 b) = _
    have e : restPast p (BitVec.ofNat 32 a) (2048 - 2 ^ p) (ix2 r ⟨w.val - 2 ^ p, by omega⟩)
        = BitVec.ofNat 32 w.val - (BitVec.ofNat 32 (a + r.val) + 1#32) := by
      show laneIota 256 (2048 - 2 ^ p) (ix2 r ⟨w.val - 2 ^ p, by omega⟩) + BitVec.ofNat 32 (2 ^ p)
        - (BitVec.ofNat 32 a + rowIota 256 (2048 - 2 ^ p) (ix2 r ⟨w.val - 2 ^ p, by omega⟩) + 1#32) = _
      rw [laneIota_apply, rowIota_apply, ← BitVec.ofNat_add, ← BitVec.ofNat_add]
      show BitVec.ofNat 32 (w.val - 2 ^ p + 2 ^ p) - _ = _
      rw [Nat.sub_add_cancel (by omega)]
    rw [e, rowIota_apply, ← BitVec.ofNat_add a r.val]
    exact pad_word hb (by omega) (by omega)

/-- The two rows a query gets are the values and the places of a stable top-k of its whole row `x` of masked scores: the scores of
    the segment's keys up to the query, and the mask elsewhere. -/
theorem emit_row (hp : 2 ^ p ≤ 2048) (hp' : p ≤ 31) (r : Fin 256) (ha : a + r.val + 1 ≤ 2 ^ p) (hb : b + 2 ^ p ≤ 4096)
    (hs : ∀ i, i.val ≤ a + r.val → score kb q wt r i ≠ ⊥) (x : Fin 4096 → EReal)
    (hin : ∀ (s : Fin 4096) (i : Fin (2 ^ p)), s.val = b + i.val → i.val < a + r.val + 1 → x s = score kb q wt r i)
    (hout : ∀ s : Fin 4096, s.val < b ∨ b + (a + r.val + 1) ≤ s.val → x s = ⊥) (w : Fin 2048) :
    emitValues p kb q wt ⊥ (BitVec.ofNat 32 a) hp (ix2 r w)
        = x (sortedFrom (fun s t => decide (x t < x s)) (w.castLE (by decide)))
      ∧ emitRows p kb q wt ⊥ (BitVec.ofNat 32 a) (BitVec.ofNat 32 b) hp (ix2 r w)
        = BitVec.ofNat 32 (sortedFrom (fun s t => decide (x t < x s)) (w.castLE (by decide))).val := by
  have hr := r.isLt
  let v : Fin (2 ^ p) → EReal := fun i => if i.val ≤ a + r.val then score kb q wt r i else ⊥
  obtain ⟨σ, hσ, hpair⟩ := sortedPair_apply kb q wt ⊥ a hp hp' (by omega) r v fun _ => rfl
  have hv : ∀ i, v i = ⊥ ↔ a + r.val + 1 ≤ i.val := fun i => by
    show (if i.val ≤ a + r.val then score kb q wt r i else ⊥) = ⊥ ↔ _
    split_ifs with h
    · exact iff_of_false (hs i h) (by omega)
    · exact iff_of_true rfl (by omega)
  obtain ⟨hplace, hvalue⟩ := top_row (K := 2048) (by decide) hp b ha (by omega) v hv σ hσ x
    (fun s i h h' => (hin s i h h').trans (if_pos (by omega) : v i = _).symm) hout w
  rw [emitValues_apply kb q wt ⊥ a hp r ha, emitRows_apply kb q wt ⊥ a b hp (by omega) r ha, hvalue, hplace]
  unfold pick
  constructor
  · split_ifs with h
    · exact (hpair _).1
    · rfl
  · split_ifs with h
    · rw [(hpair _).2, ← BitVec.ofNat_add, Nat.add_comm b]
    all_goals rfl

end Block
end Indexer
-- ==== Proof.QueryBlock.lean ====
/- The queries of a block of 256 tokens, their head weights, and their scores against a run of keys. -/
module

public import proofs.«01_k».proof.Proof.KeyBlock
public import proofs.«01_k».proof.Proof.EmitRead

@[expose] public section

set_option maxRecDepth 16384

noncomputable section

namespace Indexer

open Idealize.ShloMosaic Idealize.ShloMosaic.ValueIdx Idealize.ShloMosaic.SortNet Cert.KernelIdeal Cert.KernelIdeal.Gen

/-- A table of one head's lanes, repeated for every head. -/
theorem everyHead_apply (x : S256x128.Idx → EReal)
    (hc : Shape.Concatenates ((List.replicate 32 (⟨S256x128, x⟩ : (s : Shape) × (s.Idx → EReal))).map (·.1)) S256x4096 1) (r : Fin 256)
    (h : Fin 32) (d : Fin 128) :
    concatenate S256x4096 1 (List.replicate 32 (⟨S256x128, x⟩ : (s : Shape) × (s.Idx → EReal))) hc (ix2 r (headLane h d)) = x (ix2 r d) := by
  refine concatenate_replicate_apply (t := S256x4096) (s₁ := S256x128) 1 32 x hc rfl _ _ ?_ fun b hb => ?_
  · show d.val = (128 * h.val + d.val) % 128
    omega
  · match b with
    | 0 => rfl
    | 1 => exact absurd rfl hb

/-- The queries of a block. -/
theorem queryBlock_apply (x0 : S256x1536.Idx → EReal) (x1 : S1536x4096.Idx → EReal) (x4 x5 : S256x128.Idx → EReal) (r : Fin 256)
    (h : Fin 32) (d : Fin 128) (l : ℕ) (hc : ∀ d, x4 (ix2 r d) = cosAt l d) (hs : ∀ d, x5 (ix2 r d) = sinAt l d) :
    queries x0 x1 x4 x5 (ix2 r (headLane h d)) = turned l (fun d => rowDot x0 x1 r (headLane h d)) d := by
  have hv : ∀ n, k1_pay1244 (F := Ideal) x0 x1 (ix2 r n) = rowDot x0 x1 r n := fun n => by
    unfold k1_pay1244
    rw [shapeCast_self]
    exact product_apply x0 x1 r n
  refine (rotate_apply (n := 256) (m := 4096) (m' := 4064) (by decide) rfl (k1_pay1244 (F := Ideal) x0 x1)
    (concatenate S256x4096 1 (List.replicate 32 (⟨S256x128, k1_pay1245 (F := Ideal) x4⟩ : (s : Shape) × (s.Idx → EReal)))
      concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1)
    (concatenate S256x4096 1 (List.replicate 32 (⟨S256x128, shapeCast S256x128 x5 shapeCasts_S256x128_S256x128⟩ : (s : Shape) × (s.Idx → EReal)))
      concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1)
    (upperMask 256 4096 (iota .tc S256x4096 32 [1] iota_S256x4096_d1_w32)
      (Scalar.select (Scalar.cmpi .eq 64#32 0#32) 1#32 64#32) broadcasts_S256x4096_S256x4096)
    (upperMask_apply (by decide) _ (fun i => iota_single_apply _ _ _ _ _ i) _) slices_S256x4096_o0_4064_S256x32
    slices_S256x4096_o0_0_S256x4064 slices_S256x4096_o0_32_S256x4064 slices_S256x4096_o0_0_S256x32
    concatenates_S256x32_S256x4064_S256x4096_d1 concatenates_S256x4064_S256x32_S256x4096_d1 r (headLane h d)).trans ?_
  rw [partner_headLane, hv, hv, everyHead_apply, everyHead_apply]
  unfold k1_pay1245
  rw [shapeCast_self, shapeCast_self, hc, hs]
  exact tables_turn l (fun d => rowDot x0 x1 r (headLane h d)) d

/-- The head weights of a block, a head a row. -/
theorem headRows_apply (x3 : S256x32.Idx → EReal) (h : Fin 32) (r : Fin 256) :
    k1_pay1247 (F := Ideal) x3 (ix2 h r) = x3 (ix2 r h) := by
  unfold k1_pay1247
  rw [shapeCast_self]
  refine transpose_apply _ _ _ _ _ fun a => ?_
  match a with
  | 0 => rfl
  | 1 => rfl

section Scores
variable {p : ℕ} (kb : (Rows (2 ^ p) 128).Idx → EReal) (q : (Rows 256 4096).Idx → EReal) (wt : (Rows 32 256).Idx → EReal)

theorem headTerm_apply (h : Fin 32) (i : Fin (2 ^ p)) (r : Fin 256) :
    headTerm p kb q wt h.val h.isLt (ix2 i r) =
      wt (ix2 h r) * max (∑ d : Fin 128, q (ix2 r (headLane h d)) * kb (ix2 i d)) 0 := by
  unfold headTerm
  refine congrArg₂ (· * ·) ?_ (congrArg₂ max ?_ Ideal.ofBits_zero_f32)
  · refine (broadcastTo_apply _ _ _ (ix2 (0 : Fin 1) r) fun a => ?_).trans (extractStridedSlice_apply _ _ _ _ _ fun a => ?_)
    · match a with
      | 0 => rfl
      | 1 => rfl
    · match a with
      | 0 => rfl
      | 1 => exact (Nat.zero_add _).symm
  · refine (Ideal.matmul_transposedRhs_apply (φ₁ := .bf16) (φ₂ := .bf16) none kb _ _ i r).trans ?_
    show Ideal.ofBits .f32 0x00000000#32 + _ = _
    rw [Ideal.ofBits_zero_f32, zero_add]
    refine Finset.sum_congr rfl fun d _ => (mul_comm _ _).trans (congrArg (· * kb (ix2 i d)) ?_)
    refine extractStridedSlice_apply _ _ _ _ _ fun a => ?_
    match a with
    | 0 => exact (Nat.zero_add _).symm
    | 1 => rfl

theorem headSum_apply (t : ℕ) (ht : t ≤ 32) (i : Fin (2 ^ p)) (r : Fin 256) :
    headSum p kb q wt t ht (ix2 i r) = ∑ h : Fin t, headTerm p kb q wt h.val (h.isLt.trans_le ht) (ix2 i r) := by
  induction t with
  | zero => exact Ideal.ofBits_zero_f32
  | succ t ih =>
    rw [Fin.sum_univ_castSucc]
    exact congrArg (· + _) (ih (Nat.le_of_succ_le ht))

/-- The kernel's score is the problem's, of the keys, queries and weights it is given. -/
theorem score_apply (i : Fin (2 ^ p)) (r : Fin 256) :
    score kb q wt r i = (∑ h : Fin 32, wt (ix2 h r) * max (∑ d : Fin 128, q (ix2 r (headLane h d)) * kb (ix2 i d)) 0)
      * Ideal.ofBits .f32 0x3DB504F3#32 := by
  unfold score
  rw [headSum_apply]
  exact congrArg (· * Ideal.ofBits .f32 0x3DB504F3#32) (Finset.sum_congr rfl fun h _ => headTerm_apply kb q wt h i r)

end Scores

end Indexer
-- ==== Proof.RefPlaces.lean ====
/- The reference's places: where each token's sequence starts, and the token's place in it, for four sequences of 1024. -/
module

public import proofs.«01_k».proof.Proof.Gen.ReferenceIdeal.Read
public import proofs.«01_k».proof.Proof.Plain
public import Idealize.ShloMosaic.Lib.WordCmp
public import Mathlib.Data.BitVec

@[expose] public section

set_option maxRecDepth 16384

noncomputable section

namespace Indexer

open Idealize.ShloMosaic Idealize.ShloMosaic.ValueIdx Idealize.ShloMosaic.SortNet Idealize.SL.Sem Cert.ReferenceIdeal Cert.ReferenceIdeal.Gen
  Cert.ReferenceIdeal.Read WordCmp

/-- Four sequences of 1024 tokens. -/
abbrev lengths : S4.Idx → BitVec 32 := fun _ => 1024#32

/-- Where the sequences end. -/
theorem ends_apply : ∀ i : Fin 4, val_main_v0 (F := Ideal) lengths (ix1 i) = BitVec.ofNat 32 (1024 * (i.val + 1)) := by
  decide +kernel

/-- A token counts each sequence that ends before it. -/
theorem counted_apply (t : Fin 4096) (k : Fin 3) :
    val_main_v10 (F := Ideal) lengths (ix2 t k) = if 1024 * (k.val + 1) ≤ t.val then 1024#32 else 0#32 := by
  have ht := t.isLt
  have hk := k.isLt
  rw [val_main_v10_apply, val_main_v7_apply, val_main_v5_apply, val_main_v2_apply, val_main_v1_apply, val_main_v6_apply,
    val_main_v4_apply, val_main_v3_apply, val_main_call1_v1_apply, val_main_v9_apply, val_main_v8_apply,
    val_main_call1_v2_apply]
  have e : idx_main_v3 (idx_main_v4 (idx_main_v6 (ix2 t k))) = ix1 ⟨k.val, by omega⟩ := eq_ix1 _
  rw [e, ends_apply]
  show Scalar.select (IntOp.cmpi .sge (BitVec.ofNat 32 t.val) (BitVec.ofNat 32 (1024 * (k.val + 1)))) 1024#32 0#32 = _
  rw [cmpi_sge_ofNat (show t.val < 2 ^ 31 by omega) (show 1024 * (k.val + 1) < 2 ^ 31 by omega)]
  by_cases h : 1024 * (k.val + 1) ≤ t.val
  · rw [if_pos h, decide_eq_true h]; rfl
  · rw [if_neg h, decide_eq_false h]; rfl

instance : Std.Commutative (IntOp.addi (w := 32)) := ⟨BitVec.add_comm⟩
instance : Std.Associative (IntOp.addi (w := 32)) := ⟨BitVec.add_assoc⟩

/-- Where a token's sequence starts. -/
theorem start_apply (t : Fin 4096) : val_main_v11 (F := Ideal) lengths (ix1 t) = BitVec.ofNat 32 (1024 * (t.val / 1024)) := by
  have ht := t.isLt
  have hr : S4096x3.Reduces [1] S4096 := by decide
  unfold val_main_v11
  rw [Host.reduce_eq_fold_single IntOp.addi _ _ reducesTo_S4096x3_S4096_d1 hr]
  have e : (val_main_v10 (F := Ideal) lengths ∘ hr.lift (ix1 t)) = fun k : Fin 3 => if 1024 * (k.val + 1) ≤ t.val then 1024#32 else 0#32 := by
    funext k
    refine Eq.trans ?_ (counted_apply t k)
    exact congrArg (val_main_v10 (F := Ideal) lengths) (funext fun a => by
      match a with
      | ⟨0, _⟩ => rfl
      | ⟨1, _⟩ => rfl)
  rw [e]
  show (if 1024 * (0 + 1) ≤ t.val then 1024#32 else 0#32) + ((if 1024 * (1 + 1) ≤ t.val then 1024#32 else 0#32)
    + ((if 1024 * (2 + 1) ≤ t.val then 1024#32 else 0#32) + 0#32)) = _
  have hq : t.val / 1024 = 0 ∧ t.val < 1024 ∨ t.val / 1024 = 1 ∧ 1024 ≤ t.val ∧ t.val < 2048
      ∨ t.val / 1024 = 2 ∧ 2048 ≤ t.val ∧ t.val < 3072 ∨ t.val / 1024 = 3 ∧ 3072 ≤ t.val := by omega
  rcases hq with ⟨h, h1⟩ | ⟨h, h1, h2⟩ | ⟨h, h1, h2⟩ | ⟨h, h1⟩ <;> rw [h]
  · rw [if_neg (by omega), if_neg (by omega), if_neg (by omega)]; rfl
  · rw [if_pos (by omega), if_neg (by omega), if_neg (by omega)]; rfl
  · rw [if_pos (by omega), if_pos (by omega), if_neg (by omega)]; rfl
  · rw [if_pos (by omega), if_pos (by omega), if_pos (by omega)]; rfl

/-- A token's place in its sequence. -/
theorem place_apply (t : Fin 4096) : val_main_v12 (F := Ideal) lengths (ix1 t) = BitVec.ofNat 32 (t.val % 1024) := by
  rw [val_main_v12_apply, val_main_v1_apply, start_apply]
  show BitVec.ofNat 32 t.val - _ = _
  have h : t.val = 1024 * (t.val / 1024) + t.val % 1024 := (Nat.div_add_mod _ _).symm
  conv_lhs => rw [h]
  rw [BitVec.ofNat_add]
  have e : 1024 * ((1024 * (t.val / 1024) + t.val % 1024) / 1024) = 1024 * (t.val / 1024) := by omega
  rw [e]
  ring

theorem place_at (i : S4096.Idx) : val_main_v12 (F := Ideal) lengths i = BitVec.ofNat 32 ((i 0).val % 1024) :=
  (congrArg _ (eq_ix1 i)).trans (place_apply _)

/-- The end of the keys a token may see. -/
theorem end_apply (t : Fin 4096) : val_main_v15 (F := Ideal) lengths (ix1 t) = BitVec.ofNat 32 (t.val + 1) := by
  rw [val_main_v15_apply, val_main_v13_apply, start_apply, place_apply, val_main_v14_apply]
  show BitVec.ofNat 32 _ + BitVec.ofNat 32 _ + 1#32 = _
  rw [← BitVec.ofNat_add, Nat.div_add_mod, BitVec.ofNat_add t.val 1]

/-- Which keys a token may see. -/
theorem seen_apply (t s : Fin 4096) {α : Type} (x y : α) :
    Scalar.select (val_main_v118 (F := Ideal) lengths (ix2 t s)) x y
      = if 1024 * (t.val / 1024) ≤ s.val ∧ s.val ≤ t.val then x else y := by
  have ht := t.isLt
  have hs := s.isLt
  rw [val_main_v118_apply, val_main_v112_apply, val_main_v117_apply, val_main_v110_apply, val_main_v108_apply, val_main_v111_apply,
    val_main_v109_apply, val_main_v115_apply, val_main_v113_apply, val_main_v116_apply, val_main_v114_apply, val_main_v102_apply]
  have e : idx_main_v109 (idx_main_v111 (ix2 t s)) = ix1 t := eq_ix1 _
  have e' : idx_main_v114 (idx_main_v116 (ix2 t s)) = ix1 t := eq_ix1 _
  rw [e, e', start_apply, end_apply]
  show Scalar.select (IntOp.andi (IntOp.cmpi .sge (BitVec.ofNat 32 s.val) _) (IntOp.cmpi .slt (BitVec.ofNat 32 s.val) _)) x y = _
  rw [cmpi_sge_ofNat (show s.val < 2 ^ 31 by omega) (show 1024 * (t.val / 1024) < 2 ^ 31 by omega),
    cmpi_slt_ofNat (show s.val < 2 ^ 31 by omega) (show t.val + 1 < 2 ^ 31 by omega)]
  by_cases h : 1024 * (t.val / 1024) ≤ s.val <;> by_cases h' : s.val < t.val + 1
  · rw [if_pos ⟨h, by omega⟩, decide_eq_true h, decide_eq_true h']; rfl
  · rw [if_neg (by omega), decide_eq_true h, decide_eq_false h']; rfl
  · rw [if_neg (by omega), decide_eq_false h, decide_eq_true h']; rfl
  · rw [if_neg (by omega), decide_eq_false h, decide_eq_false h']; rfl

end Indexer
-- ==== Proof.RefRead.lean ====
/- The reference's keys, queries, weights and scores, read as the plain ones. -/
module

public import proofs.«01_k».proof.Proof.RefPlaces
public import Idealize.ShloMosaic.Lib.Pipeline.Value

@[expose] public section

set_option maxRecDepth 16384

noncomputable section

namespace Indexer

open Idealize.ShloMosaic Idealize.ShloMosaic.ValueIdx Idealize.ShloMosaic.SortNet Idealize.SL.Sem Cert.ReferenceIdeal Cert.ReferenceIdeal.Gen
  Cert.ReferenceIdeal.Read

variable (x0 : S4096x1536.Idx → EReal) (x1 : S4096x2048.Idx → EReal) (x3 : S1536x4096.Idx → EReal)
  (x4 : S2048x128.Idx → EReal) (x5 x6 : S128.Idx → EReal) (x7 : S2048x32.Idx → EReal)

/-! ## The keys -/

theorem ref_key_dot (i : S4096x128.Idx) : val_main_v18 (F := Ideal) x1 x4 i = rowDot x1 x4 (i 0) (i 1) := by
  rw [val_main_v18_apply]
  exact Finset.sum_congr rfl fun k _ => congrArg₂ (· * ·) (congrArg x1 (eq_ix2 _)) (congrArg x4 (eq_ix2 _))

theorem ref_mean (i : S4096x1.Idx) : val_main_v22 (F := Ideal) x1 x4 i = mean (rowDot x1 x4 (i 0)) := by
  rw [val_main_v22_apply, val_main_v20_apply, val_main_v19_apply, val_main_v21_apply]
  refine congrArg₂ Ideal.div ?_ rfl
  show Ideal.ofBits .f32 0x00000000#32 + _ = _
  rw [Ideal.ofBits_zero_f32, zero_add]
  exact Finset.sum_congr rfl fun k _ => ref_key_dot _ _ _

theorem ref_away (i : S4096x128.Idx) :
    val_main_v24 (F := Ideal) x1 x4 i = rowDot x1 x4 (i 0) (i 1) - mean (rowDot x1 x4 (i 0)) := by
  rw [val_main_v24_apply, val_main_v23_apply, ref_key_dot, ref_mean]; rfl

theorem ref_away' (i : S4096x128.Idx) :
    val_main_v31 (F := Ideal) x1 x4 i = rowDot x1 x4 (i 0) (i 1) - mean (rowDot x1 x4 (i 0)) := by
  rw [val_main_v31_apply, val_main_v30_apply, ref_key_dot, ref_mean]; rfl

theorem ref_variance (i : S4096x1.Idx) : val_main_v29 (F := Ideal) x1 x4 i = variance (rowDot x1 x4 (i 0)) := by
  rw [val_main_v29_apply, val_main_v27_apply, val_main_v26_apply, val_main_v28_apply]
  refine congrArg₂ Ideal.div ?_ rfl
  show Ideal.ofBits .f32 0x00000000#32 + _ = _
  rw [Ideal.ofBits_zero_f32, zero_add]
  refine Finset.sum_congr rfl fun k _ => ?_
  rw [val_main_v25_apply, ref_away]; rfl

/-- The reference's normalized keys. -/
theorem ref_normed (i : S4096x128.Idx) : val_main_v42 (F := Ideal) x1 x4 x5 x6 i
    = normed (rowDot x1 x4 (i 0)) (fun d => x5 (ix1 d)) (fun d => x6 (ix1 d)) (i 1) := by
  rw [val_main_v42_apply, val_main_v39_apply, val_main_v36_apply, val_main_v35_apply, val_main_v34_apply, val_main_v33_apply,
    val_main_v32_apply, val_main_v38_apply, val_main_v37_apply, val_main_v41_apply, val_main_v40_apply, ref_away', ref_variance]
  exact congrArg₂ (· + ·) (congrArg₂ (· * ·) rfl (congrArg x5 (eq_ix1 _))) (congrArg x6 (eq_ix1 _))

/-! ## The angles -/

theorem ref_frequency (i : S32.Idx) : val_main_v49 (F := Ideal) i = frequency (i 0) := by
  rw [val_main_v49_apply, val_main_v48_apply, val_main_v47_apply, val_main_v46_apply, val_main_v45_apply, val_main_v44_apply]
  rfl

theorem ref_angle (i : S4096x32.Idx) : val_main_v55 (F := Ideal) lengths i = angle ((i 0).val % 1024) (i 1) := by
  rw [val_main_v55_apply, val_main_v53_apply, val_main_v51_apply, val_main_v50_apply, val_main_v54_apply, val_main_v52_apply,
    ref_frequency]
  rw [place_at]
  rfl

theorem ref_angle' (i : S4096x32.Idx) : val_main_v86 (F := Ideal) lengths i = angle ((i 0).val % 1024) (i 1) := ref_angle i

/-! ## The rotations -/

theorem ref_key_low (i : S4096x32.Idx) : val_main_v93 (F := Ideal) x1 lengths x4 x5 x6 i
    = keyRow x1 x4 (fun d => x5 (ix1 d)) (fun d => x6 (ix1 d)) (i 0) ⟨(i 1).val, by have := (i 1).isLt; exact Nat.lt_of_lt_of_le this (by decide)⟩ := by
  rw [val_main_v93_apply, val_main_v91_apply, val_main_v92_apply, val_main_v89_apply, val_main_v90_apply, val_main_v87_apply,
    val_main_v88_apply, ref_angle', ref_normed, ref_normed]
  have h : (i 1).val < 32 := (i 1).isLt
  unfold keyRow turned
  rw [dif_pos h]
  have hk : (i 1).val + 32 < 128 := by omega
  have e : (idx_main_v90 i 1 : Fin 128) = ⟨(i 1).val + 32, hk⟩ := Fin.ext (Nat.add_comm _ _)
  rw [e]; rfl

theorem ref_key_high (i : S4096x32.Idx) : val_main_v96 (F := Ideal) x1 lengths x4 x5 x6 i
    = keyRow x1 x4 (fun d => x5 (ix1 d)) (fun d => x6 (ix1 d)) (i 0) ⟨(i 1).val + 32, by have h : (i 1).val < 32 := (i 1).isLt; omega⟩ := by
  rw [val_main_v96_apply, val_main_v94_apply, val_main_v95_apply, val_main_v89_apply, val_main_v90_apply, val_main_v87_apply,
    val_main_v88_apply, ref_angle', ref_normed, ref_normed]
  have h : (i 1).val < 32 := (i 1).isLt
  unfold keyRow turned
  rw [dif_neg (by simp), dif_pos (show (i 1).val + 32 < 64 by omega)]
  have hk : (i 1).val + 32 < 128 := by omega
  have e : (idx_main_v90 i 1 : Fin 128) = ⟨(i 1).val + 32, hk⟩ := Fin.ext (Nat.add_comm _ _)
  rw [e]; rfl

theorem ref_key_rest (i : S4096x64.Idx) : val_main_v97 (F := Ideal) x1 x4 x5 x6 i
    = keyRow x1 x4 (fun d => x5 (ix1 d)) (fun d => x6 (ix1 d)) (i 0) ⟨(i 1).val + 64, by have h : (i 1).val < 64 := (i 1).isLt; omega⟩ := by
  rw [val_main_v97_apply, ref_normed]
  have h : (i 1).val < 64 := (i 1).isLt
  unfold keyRow turned
  rw [dif_neg (show ¬(i 1).val + 64 < 32 by omega), dif_neg (show ¬(i 1).val + 64 < 64 by omega)]
  have hk : (i 1).val + 64 < 128 := by omega
  have e : (idx_main_v97 i 1 : Fin 128) = ⟨(i 1).val + 64, hk⟩ := Fin.ext (Nat.add_comm _ _)
  rw [e]; rfl

/-- The reference's keys. -/
theorem ref_key (t : Fin 4096) (d : Fin 128) : val_main_v98 (F := Ideal) x1 lengths x4 x5 x6 (ix2 t d)
    = keyRow x1 x4 (fun d => x5 (ix1 d)) (fun d => x6 (ix1 d)) t d := by
  unfold val_main_v98
  by_cases h : d.val < 32
  · refine (concatenate_apply_piece (t := S4096x128) 1 _ _ (ix2 t d) 0 (by show 0 < 3; omega) S4096x32 _ rfl rfl 0 rfl
      (ix2 t ⟨d.val, h⟩) (fun a ha => ?_) (Nat.zero_add _)).trans (ref_key_low x1 x4 x5 x6 _)
    match a with
    | ⟨0, _⟩ => rfl
    | ⟨1, _⟩ => exact absurd rfl ha
  by_cases h' : d.val < 64
  · refine (concatenate_apply_piece (t := S4096x128) 1 _ _ (ix2 t d) 1 (by show 1 < 3; omega) S4096x32 _ rfl rfl 32 rfl
      (ix2 t ⟨d.val - 32, by omega⟩) (fun a ha => ?_) (by show 32 + (d.val - 32) = d.val; omega)).trans
      ((ref_key_high x1 x4 x5 x6 _).trans (congrArg _ (Fin.ext (by show d.val - 32 + 32 = d.val; omega))))
    match a with
    | ⟨0, _⟩ => rfl
    | ⟨1, _⟩ => exact absurd rfl ha
  · refine (concatenate_apply_piece (t := S4096x128) 1 _ _ (ix2 t d) 2 (by show 2 < 3; omega) S4096x64 _ rfl rfl 64 rfl
      (ix2 t ⟨d.val - 64, by omega⟩) (fun a ha => ?_) (by show 64 + (d.val - 64) = d.val; omega)).trans
      ((ref_key_rest x1 x4 x5 x6 _).trans (congrArg _ (Fin.ext (by show d.val - 64 + 64 = d.val; omega))))
    match a with
    | ⟨0, _⟩ => rfl
    | ⟨1, _⟩ => exact absurd rfl ha

/-! ## The queries -/

theorem ref_query_dot (i : S4096x32x128.Idx) :
    val_main_v17 (F := Ideal) x0 x3 i = rowDot x0 x3 (i 0) (headLane (i 1) (i 2)) := by
  have h0 : (i 0).val < 4096 := (i 0).isLt
  have h1 : (i 1).val < 32 := (i 1).isLt
  have h2 : (i 2).val < 128 := (i 2).isLt
  rw [val_main_v17_apply, val_main_v16_apply]
  have e0 : (idx_main_v17 i 0 : Fin 4096) = i 0 :=
    Fin.ext (by show (((i 0).val * 32 + (i 1).val) * 128 + (i 2).val) / 4096 = (i 0).val; omega)
  have e1 : (idx_main_v17 i 1 : Fin 4096) = headLane (i 1) (i 2) :=
    Fin.ext (by show (((i 0).val * 32 + (i 1).val) * 128 + (i 2).val) % 4096 = 128 * (i 1).val + (i 2).val; omega)
  exact Finset.sum_congr rfl fun k _ => congrArg₂ (· * ·)
    (congrArg x0 ((eq_ix2 _).trans (congrArg (fun z : Fin 4096 => ix2 z k) e0)))
    (congrArg x3 ((eq_ix2 _).trans (congrArg (fun z : Fin 4096 => ix2 k z) e1)))

theorem ref_query_low (i : S4096x32x32.Idx) : val_main_v66 (F := Ideal) x0 lengths x3 i
    = queryRow x0 x3 (i 0) (i 1) ⟨(i 2).val, by have h : (i 2).val < 32 := (i 2).isLt; omega⟩ := by
  rw [val_main_v66_apply, val_main_v63_apply, val_main_v65_apply, val_main_v62_apply, val_main_v64_apply, val_main_v58_apply,
    val_main_v59_apply, val_main_v56_apply, val_main_v57_apply, val_main_v60_apply, val_main_v61_apply, ref_angle,
    ref_query_dot, ref_query_dot]
  have h : (i 2).val < 32 := (i 2).isLt
  unfold queryRow turned
  rw [dif_pos h]
  have hk : (i 2).val + 32 < 128 := by omega
  have e : (idx_main_v61 i 2 : Fin 128) = ⟨(i 2).val + 32, hk⟩ := Fin.ext (Nat.add_comm _ _)
  rw [e]; rfl

theorem ref_query_high (i : S4096x32x32.Idx) : val_main_v71 (F := Ideal) x0 lengths x3 i
    = queryRow x0 x3 (i 0) (i 1) ⟨(i 2).val + 32, by have h : (i 2).val < 32 := (i 2).isLt; omega⟩ := by
  rw [val_main_v71_apply, val_main_v68_apply, val_main_v70_apply, val_main_v67_apply, val_main_v69_apply, val_main_v58_apply,
    val_main_v59_apply, val_main_v56_apply, val_main_v57_apply, val_main_v60_apply, val_main_v61_apply, ref_angle,
    ref_query_dot, ref_query_dot]
  have h : (i 2).val < 32 := (i 2).isLt
  unfold queryRow turned
  rw [dif_neg (by simp), dif_pos (show (i 2).val + 32 < 64 by omega)]
  have hk : (i 2).val + 32 < 128 := by omega
  have e : (idx_main_v61 i 2 : Fin 128) = ⟨(i 2).val + 32, hk⟩ := Fin.ext (Nat.add_comm _ _)
  rw [e]; rfl

theorem ref_query_rest (i : S4096x32x64.Idx) : val_main_v72 (F := Ideal) x0 x3 i
    = queryRow x0 x3 (i 0) (i 1) ⟨(i 2).val + 64, by have h : (i 2).val < 64 := (i 2).isLt; omega⟩ := by
  rw [val_main_v72_apply, ref_query_dot]
  have h : (i 2).val < 64 := (i 2).isLt
  unfold queryRow turned
  rw [dif_neg (show ¬(i 2).val + 64 < 32 by omega), dif_neg (show ¬(i 2).val + 64 < 64 by omega)]
  have hk : (i 2).val + 64 < 128 := by omega
  have e : (idx_main_v72 i 2 : Fin 128) = ⟨(i 2).val + 64, hk⟩ := Fin.ext (Nat.add_comm _ _)
  rw [e]; rfl

/-- The reference's queries. -/
theorem ref_query (t : Fin 4096) (n : Fin 32) (d : Fin 128) :
    val_main_v73 (F := Ideal) x0 lengths x3 (ix3 t n d) = queryRow x0 x3 t n d := by
  unfold val_main_v73
  by_cases h : d.val < 32
  · refine (concatenate_apply_piece (t := S4096x32x128) 2 _ _ (ix3 t n d) 0 (by show 0 < 3; omega) S4096x32x32 _ rfl rfl 0 rfl
      (ix3 t n ⟨d.val, h⟩) (fun a ha => ?_) (Nat.zero_add _)).trans (ref_query_low x0 x3 _)
    match a with
    | ⟨0, _⟩ => rfl
    | ⟨1, _⟩ => rfl
    | ⟨2, _⟩ => exact absurd rfl ha
  by_cases h' : d.val < 64
  · refine (concatenate_apply_piece (t := S4096x32x128) 2 _ _ (ix3 t n d) 1 (by show 1 < 3; omega) S4096x32x32 _ rfl rfl 32 rfl
      (ix3 t n ⟨d.val - 32, by omega⟩) (fun a ha => ?_) (by show 32 + (d.val - 32) = d.val; omega)).trans
      ((ref_query_high x0 x3 _).trans (congrArg _ (Fin.ext (by show d.val - 32 + 32 = d.val; omega))))
    match a with
    | ⟨0, _⟩ => rfl
    | ⟨1, _⟩ => rfl
    | ⟨2, _⟩ => exact absurd rfl ha
  · refine (concatenate_apply_piece (t := S4096x32x128) 2 _ _ (ix3 t n d) 2 (by show 2 < 3; omega) S4096x32x64 _ rfl rfl 64 rfl
      (ix3 t n ⟨d.val - 64, by omega⟩) (fun a ha => ?_) (by show 64 + (d.val - 64) = d.val; omega)).trans
      ((ref_query_rest x0 x3 _).trans (congrArg _ (Fin.ext (by show d.val - 64 + 64 = d.val; omega))))
    match a with
    | ⟨0, _⟩ => rfl
    | ⟨1, _⟩ => rfl
    | ⟨2, _⟩ => exact absurd rfl ha

/-! ## The scores -/

theorem ref_weight (i : S4096x32.Idx) : val_main_v101 (F := Ideal) x1 x7 i = headWeight x1 x7 (i 0) (i 1) := by
  rw [val_main_v101_apply, val_main_v99_apply, val_main_v100_apply]
  exact congrArg₂ (· * ·) (Finset.sum_congr rfl fun k _ =>
    congrArg₂ (· * ·) (congrArg x1 (eq_ix2 _)) (congrArg x7 (eq_ix2 _))) rfl

/-- The reference's scores. -/
theorem ref_score (t s : Fin 4096) : val_main_v107 (F := Ideal) x0 x1 lengths x3 x4 x5 x6 x7 (ix2 t s)
    = plainScore x0 x1 x3 x4 (fun d => x5 (ix1 d)) (fun d => x6 (ix1 d)) x7 t s := by
  rw [val_main_v107_apply, val_main_v105_apply, val_main_v106_apply]
  refine congrArg₂ (· * ·) (Finset.sum_congr rfl fun n _ => congrArg₂ (· * ·) (ref_weight x1 x7 _) ?_) rfl
  rw [val_main_v104_apply, val_main_v103_apply]
  refine congrArg₂ max (Finset.sum_congr rfl fun k _ => ?_) ?_
  · rw [show lidx_main_v103 (ridx_main_v105 (ix2 t s) n) k = ix3 t n k from eq_ix3 _,
      show ridx_main_v103 (ridx_main_v105 (ix2 t s) n) k = ix2 s k from eq_ix2 _, ref_query, ref_key]
  · rw [val_main_call2_v0_apply]
    exact Ideal.ofBits_zero_f32

/-- The reference's masked scores. -/
theorem ref_row (t s : Fin 4096) : val_main_v119 (F := Ideal) x0 x1 lengths x3 x4 x5 x6 x7 (ix2 t s)
    = plainRow x0 x1 x3 x4 (fun d => x5 (ix1 d)) (fun d => x6 (ix1 d)) x7 t s := by
  rw [val_main_v119_apply, seen_apply, ref_score, val_main_call3_v1_apply]
  unfold plainRow
  refine if_congr Iff.rfl rfl ?_
  show Ideal.ofBits .f32 0xFF800000#32 = ⊥
  simp [Ideal.ofBits, Ideal.ieee]

/-! ## The results -/

/-- The order a row's places are taken in: greater scores first, earlier places first among equal ones. -/
abbrev taken (x : Fin 4096 → EReal) (w : Fin 2048) : Fin 4096 := sortedFrom (fun s t => decide (x t < x s)) (w.castLE (by decide))

theorem along_lane (t s w : Fin 4096) : Shape.Idx.along (s := S4096x4096) (ix2 t w) 1 s = ix2 t s := by
  funext a
  match a with
  | ⟨0, _⟩ => rfl
  | ⟨1, _⟩ => rfl

theorem greater_beq (x y : EReal) : (FloatOps.cmpfTotal (F := Ideal) (φ := .f32) .gt x y == 1#1) = decide (y < x) := by
  show (Ideal.cmp .ogt x y == 1#1) = _
  unfold Ideal.cmp
  by_cases h : y < x <;> simp [h]

/-- The places of a row's greatest elements, in order. -/
theorem topK_apply (x : S4096x4096.Idx → EReal) (h) (t : Fin 4096) (w : Fin 2048) :
    (Host.topK (s := S4096x4096) S4096x2048 1 (FloatOps.cmpfTotal (F := Ideal) (φ := .f32) .gt) x h).1 (ix2 t w)
        = x (ix2 t (taken (fun s => x (ix2 t s)) w))
      ∧ (Host.topK (s := S4096x4096) S4096x2048 1 (FloatOps.cmpfTotal (F := Ideal) (φ := .f32) .gt) x h).2 (ix2 t w)
        = BitVec.ofNat 32 (taken (fun s => x (ix2 t s)) w).val := by
  have hw : (2048 : ℕ) ≤ 4096 := by decide
  have hi : ∀ a : Fin 2, ((ix2 t (w.castLE hw) : S4096x4096.Idx) a).val = 0 + ((ix2 t w : S4096x2048.Idx) a).val := fun a => by
    match a with
    | ⟨0, _⟩ => exact (Nat.zero_add _).symm
    | ⟨1, _⟩ => exact (Nat.zero_add _).symm
  have e : (fun k k' : Fin 4096 => FloatOps.cmpfTotal (F := Ideal) (φ := .f32) .gt
      (x (Shape.Idx.along (s := S4096x4096) (ix2 t (w.castLE hw)) 1 k))
      (x (Shape.Idx.along (s := S4096x4096) (ix2 t (w.castLE hw)) 1 k')) == 1#1)
      = fun s s' => decide (x (ix2 t s') < x (ix2 t s)) := by
    funext k k'
    rw [along_lane, along_lane, greater_beq]
  constructor
  · unfold Host.topK
    dsimp only
    refine (extractStridedSlice_apply (fun _ => 0) _ h (ix2 t w) (ix2 t (w.castLE hw)) hi).trans ?_
    unfold Host.sort2
    rw [dif_pos (show (1 : ℕ) < S4096x4096.rank by decide)]
    refine (congrArg (fun p => x (Shape.Idx.along (s := S4096x4096) (ix2 t (w.castLE hw)) 1 (sortedFrom p (w.castLE hw)))) e).trans ?_
    exact congrArg x (along_lane _ _ _)
  · unfold Host.topK
    dsimp only
    refine (extractStridedSlice_apply (fun _ => 0) _ h (ix2 t w) (ix2 t (w.castLE hw)) hi).trans ?_
    unfold Host.sort2
    rw [dif_pos (show (1 : ℕ) < S4096x4096.rank by decide)]
    show BitVec.ofNat 32 (Shape.Idx.along (s := S4096x4096) (ix2 t (w.castLE hw)) 1 (sortedFrom _ (w.castLE hw)) 1).val = _
    refine congrArg (BitVec.ofNat 32) ?_
    refine (congrArg (fun i : S4096x4096.Idx => (i 1).val) (along_lane _ _ _)).trans ?_
    exact congrArg (fun p => (sortedFrom p (w.castLE hw)).val) e

theorem ref_row_eq (t : Fin 4096) : (fun s => val_main_v119 (F := Ideal) x0 x1 lengths x3 x4 x5 x6 x7 (ix2 t s))
    = plainRow x0 x1 x3 x4 (fun d => x5 (ix1 d)) (fun d => x6 (ix1 d)) x7 t :=
  funext fun s => ref_row x0 x1 x3 x4 x5 x6 x7 t s

/-- The reference's values. -/
theorem ref_values (t : Fin 4096) (w : Fin 2048) : val_main_values (F := Ideal) x0 x1 lengths x3 x4 x5 x6 x7 (ix2 t w)
    = plainRow x0 x1 x3 x4 (fun d => x5 (ix1 d)) (fun d => x6 (ix1 d)) x7 t
      (taken (plainRow x0 x1 x3 x4 (fun d => x5 (ix1 d)) (fun d => x6 (ix1 d)) x7 t) w) := by
  unfold val_main_values
  refine (topK_apply _ _ t w).1.trans ?_
  rw [ref_row_eq, ref_row]

/-- The reference's places. -/
theorem ref_indices (t : Fin 4096) (w : Fin 2048) : val_main_indices (F := Ideal) x0 x1 lengths x3 x4 x5 x6 x7 (ix2 t w)
    = BitVec.ofNat 32 (taken (plainRow x0 x1 x3 x4 (fun d => x5 (ix1 d)) (fun d => x6 (ix1 d)) x7 t) w).val := by
  unfold val_main_indices
  refine (topK_apply _ _ t w).2.trans ?_
  rw [ref_row_eq]

end Indexer
-- ==== Proof.SortArray.lean ====
/- What the second kernel leaves: every token's sorted scores and the numbers of their keys. -/
module

public import proofs.«01_k».proof.Proof.KeyArray
public import proofs.«01_k».proof.Proof.QueryBlock
public import proofs.«01_k».proof.Proof.RefRead

@[expose] public section

set_option maxRecDepth 16384

noncomputable section

namespace Indexer

open Idealize.ShloMosaic Idealize.ShloMosaic.ValueIdx Idealize.ShloMosaic.TcCoe Idealize.ShloMosaic.SortNet Idealize.SL.Sem Cert.KernelIdeal
  Cert.KernelIdeal.Gen

variable (m : (ℓ : Loc nD τ sig) → Buf (Elt Ideal) ℓ) (ρ : Dev nD → PrngReg) (c : Dev nD)

/-! ## The grid -/

theorem place_base : ∀ t : Fin cfg1.N, placeBase (grid1.coords t) = BitVec.ofNat 32 (256 * (t.val % 4)) :=
  (by decide +kernel : ∀ t : Fin grid1.N, _)
theorem segment_base : ∀ t : Fin cfg1.N, segmentBase (grid1.coords t) = BitVec.ofNat 32 (1024 * (t.val / 4)) :=
  (by decide +kernel : ∀ t : Fin grid1.N, _)
theorem masked_eq : masked = ⊥ := IdealRules.named_const.ideal_named_scalar _ _ _ _ rfl

theorem second_index0 : ∀ t : Fin cfg1.N, win1_0.index t (0 : Fin 2) = t.val ∧ win1_0.index t (1 : Fin 2) = 0 :=
  (by decide +kernel : ∀ t : Fin grid1.N, _)
theorem second_index1 : ∀ t : Fin cfg1.N, win1_1.index t (0 : Fin 2) = 0 ∧ win1_1.index t (1 : Fin 2) = 0 :=
  (by decide +kernel : ∀ t : Fin grid1.N, _)
theorem second_index2 : ∀ t : Fin cfg1.N, win1_2.index t (0 : Fin 2) = t.val / 4 ∧ win1_2.index t (1 : Fin 2) = 0 :=
  (by decide +kernel : ∀ t : Fin grid1.N, _)
theorem second_index3 : ∀ t : Fin cfg1.N, win1_3.index t (0 : Fin 2) = t.val ∧ win1_3.index t (1 : Fin 2) = 0 :=
  (by decide +kernel : ∀ t : Fin grid1.N, _)
theorem second_index4 : ∀ t : Fin cfg1.N, win1_4.index t (0 : Fin 2) = t.val % 4 ∧ win1_4.index t (1 : Fin 2) = 0 :=
  (by decide +kernel : ∀ t : Fin grid1.N, _)
theorem second_index5 : ∀ t : Fin cfg1.N, win1_5.index t (0 : Fin 2) = t.val % 4 ∧ win1_5.index t (1 : Fin 2) = 0 :=
  (by decide +kernel : ∀ t : Fin grid1.N, _)
theorem second_index6 : ∀ t : Fin cfg1.N, win1_6.index t (0 : Fin 2) = t.val ∧ win1_6.index t (1 : Fin 2) = 0 :=
  (by decide +kernel : ∀ t : Fin grid1.N, _)
theorem second_index7 : ∀ t : Fin cfg1.N, win1_7.index t (0 : Fin 2) = t.val ∧ win1_7.index t (1 : Fin 2) = 0 :=
  (by decide +kernel : ∀ t : Fin grid1.N, _)

theorem second_points (t : Fin cfg1.N) : t.val < 16 := Nat.lt_of_lt_of_le t.isLt (by decide +kernel)

/-- Token `r` of block `t` of 256. -/
def queryOf (t : Fin cfg1.N) (r : Fin 256) : Fin 4096 := ⟨256 * t.val + r.val, by have := second_points t; omega⟩

/-- Key `s` of the sequence of block `t`. -/
def keyOf (t : Fin cfg1.N) (s : Fin 1024) : Fin 4096 := ⟨1024 * (t.val / 4) + s.val, by have := second_points t; omega⟩

/-- The place in its sequence of token `r` of block `t`. -/
def placeOf (t : Fin cfg1.N) (r : Fin 256) : Fin 1024 := ⟨256 * (t.val % 4) + r.val, by omega⟩

/-! ## The blocks of the windows -/

theorem second_block0 (t : Fin cfg1.N) (r : Fin 256) (k : Fin 1536) :
    (iblk1 (V2 m ρ) c 0 t : S256x1536.Idx → EReal) (ix2 r k) = hidden m c (ix2 (queryOf t r) k) := by
  obtain ⟨e0, e1⟩ := second_index0 t
  have h : ((cfg1.win 0).blk t).view.emb (ix2 r k : S256x1536.Idx) = (ix2 (queryOf t r) k : S4096x1536.Idx) := by
    funext a; apply Fin.ext
    match a with
    | ⟨0, _⟩ => show win1_0.index t (0 : Fin 2) * 256 + 1 * r.val = 256 * t.val + r.val; omega
    | ⟨1, _⟩ => show win1_0.index t (1 : Fin 2) * 1536 + 1 * k.val = k.val; omega
  show W2 m ρ c (Proc.devRef .tc main_arg0) (((cfg1.win 0).blk t).view.emb (ix2 r k : S256x1536.Idx)) = _
  rw [h, W2_args m ρ c main_arg0 (by decide)]

theorem second_block1 (t : Fin cfg1.N) : (iblk1 (V2 m ρ) c 1 t : S1536x4096.Idx → EReal) = wq m c := by
  obtain ⟨e0, e1⟩ := second_index1 t
  funext j
  have h : ((cfg1.win 1).blk t).view.emb (j : S1536x4096.Idx) = (j : S1536x4096.Idx) := by
    funext a; apply Fin.ext
    match a with
    | ⟨0, _⟩ => show win1_1.index t (0 : Fin 2) * 1536 + 1 * (j 0).val = (j 0).val; omega
    | ⟨1, _⟩ => show win1_1.index t (1 : Fin 2) * 4096 + 1 * (j 1).val = (j 1).val; omega
  show W2 m ρ c (Proc.devRef .tc main_v23) (((cfg1.win 1).blk t).view.emb (j : S1536x4096.Idx)) = _
  rw [h, W2_of m ρ c main_v23 (by decide), query_weights]

theorem second_block2 (h1 : ∀ i, IsReal (inputs m c i)) (h4 : ∀ i, IsReal (wk m c i)) (t : Fin cfg1.N) (s : Fin 1024) (d : Fin 128) :
    (iblk1 (V2 m ρ) c 2 t : S1024x128.Idx → EReal) (ix2 s d) =
      keyRow (inputs m c) (wk m c) (gain m c) (shift m c) (keyOf t s) d := by
  obtain ⟨e0, e1⟩ := second_index2 t
  have h : ((cfg1.win 2).blk t).view.emb (ix2 s d : S1024x128.Idx) = (ix2 (keyOf t s) d : S4096x128.Idx) := by
    funext a; apply Fin.ext
    match a with
    | ⟨0, _⟩ => show win1_2.index t (0 : Fin 2) * 1024 + 1 * s.val = 1024 * (t.val / 4) + s.val; omega
    | ⟨1, _⟩ => show win1_2.index t (1 : Fin 2) * 128 + 1 * d.val = d.val; omega
  show W2 m ρ c (Proc.devRef .tc main_v26_0) (((cfg1.win 2).blk t).view.emb (ix2 s d : S1024x128.Idx)) = _
  rw [h, keys_array m ρ c h1 h4]
  rfl

theorem second_block3 (t : Fin cfg1.N) (r : Fin 256) (h : Fin 32) :
    (iblk1 (V2 m ρ) c 3 t : S256x32.Idx → EReal) (ix2 r h) = headWeight (inputs m c) (ww m c) (queryOf t r) h := by
  obtain ⟨e0, e1⟩ := second_index3 t
  have e : ((cfg1.win 3).blk t).view.emb (ix2 r h : S256x32.Idx) = (ix2 (queryOf t r) h : S4096x32.Idx) := by
    funext a; apply Fin.ext
    match a with
    | ⟨0, _⟩ => show win1_3.index t (0 : Fin 2) * 256 + 1 * r.val = 256 * t.val + r.val; omega
    | ⟨1, _⟩ => show win1_3.index t (1 : Fin 2) * 32 + 1 * h.val = h.val; omega
  show W2 m ρ c (Proc.devRef .tc main_v26_1) (((cfg1.win 3).blk t).view.emb (ix2 r h : S256x32.Idx)) = _
  rw [e, weights_array m ρ c]
  rfl

theorem second_block4 (t : Fin cfg1.N) (r : Fin 256) (d : Fin 128) :
    (iblk1 (V2 m ρ) c 4 t : S256x128.Idx → EReal) (ix2 r d) = cosAt (placeOf t r).val d := by
  obtain ⟨e0, e1⟩ := second_index4 t
  have h : ((cfg1.win 4).blk t).view.emb (ix2 r d : S256x128.Idx) = (ix2 (placeOf t r) d : S1024x128.Idx) := by
    funext a; apply Fin.ext
    match a with
    | ⟨0, _⟩ => show win1_4.index t (0 : Fin 2) * 256 + 1 * r.val = 256 * (t.val % 4) + r.val; omega
    | ⟨1, _⟩ => show win1_4.index t (1 : Fin 2) * 128 + 1 * d.val = d.val; omega
  show W2 m ρ c (Proc.devRef .tc main_v17) (((cfg1.win 4).blk t).view.emb (ix2 r d : S256x128.Idx)) = _
  rw [h, W2_of m ρ c main_v17 (by decide)]
  exact cos_table_apply m ρ c _ d

theorem second_block5 (t : Fin cfg1.N) (r : Fin 256) (d : Fin 128) :
    (iblk1 (V2 m ρ) c 5 t : S256x128.Idx → EReal) (ix2 r d) = sinAt (placeOf t r).val d := by
  obtain ⟨e0, e1⟩ := second_index5 t
  have h : ((cfg1.win 5).blk t).view.emb (ix2 r d : S256x128.Idx) = (ix2 (placeOf t r) d : S1024x128.Idx) := by
    funext a; apply Fin.ext
    match a with
    | ⟨0, _⟩ => show win1_5.index t (0 : Fin 2) * 256 + 1 * r.val = 256 * (t.val % 4) + r.val; omega
    | ⟨1, _⟩ => show win1_5.index t (1 : Fin 2) * 128 + 1 * d.val = d.val; omega
  show W2 m ρ c (Proc.devRef .tc main_v20) (((cfg1.win 5).blk t).view.emb (ix2 r d : S256x128.Idx)) = _
  rw [h, W2_of m ρ c main_v20 (by decide)]
  exact sin_table_apply m ρ c _ d

theorem second_block6 (t : Fin cfg1.N) (j : S256x2048.Idx) :
    ((cfg1.win 6).blk t).view.emb j = (ix2 (queryOf t (j 0)) (j 1) : S4096x2048.Idx) := by
  obtain ⟨e0, e1⟩ := second_index6 t
  funext a; apply Fin.ext
  match a with
  | ⟨0, _⟩ => show win1_6.index t (0 : Fin 2) * 256 + 1 * (j 0).val = 256 * t.val + (j 0).val; omega
  | ⟨1, _⟩ => show win1_6.index t (1 : Fin 2) * 2048 + 1 * (j 1).val = (j 1).val; omega

theorem second_block7 (t : Fin cfg1.N) (j : S256x2048.Idx) :
    ((cfg1.win 7).blk t).view.emb j = (ix2 (queryOf t (j 0)) (j 1) : S4096x2048.Idx) := by
  obtain ⟨e0, e1⟩ := second_index7 t
  funext a; apply Fin.ext
  match a with
  | ⟨0, _⟩ => show win1_7.index t (0 : Fin 2) * 256 + 1 * (j 0).val = 256 * t.val + (j 0).val; omega
  | ⟨1, _⟩ => show win1_7.index t (1 : Fin 2) * 2048 + 1 * (j 1).val = (j 1).val; omega

/-! ## The scores -/

/-- A token's masked scores. -/
def row (t : Fin 4096) : Fin 4096 → EReal :=
  plainRow (hidden m c) (inputs m c) (wq m c) (wk m c) (gain m c) (shift m c) (ww m c) t

/-- The queries of a block of the grid. -/
abbrev blockQueries (t : Fin cfg1.N) : FVec Ideal (Rows 256 4096) .bf16 :=
  queries (iblk1 (V2 m ρ) c 0 t) (iblk1 (V2 m ρ) c 1 t) (iblk1 (V2 m ρ) c 4 t) (iblk1 (V2 m ρ) c 5 t)

theorem blockQueries_apply (t : Fin cfg1.N) (r : Fin 256) (h : Fin 32) (d : Fin 128) :
    blockQueries m ρ c t (ix2 r (headLane h d)) = queryRow (hidden m c) (wq m c) (queryOf t r) h d := by
  refine (queryBlock_apply _ _ _ _ r h d (placeOf t r).val (second_block4 m ρ c t r) (second_block5 m ρ c t r)).trans ?_
  have e : (placeOf t r).val = (queryOf t r).val % 1024 := by
    have := r.isLt
    show 256 * (t.val % 4) + r.val = (256 * t.val + r.val) % 1024
    omega
  unfold queryRow
  rw [e, second_block1]
  refine congrFun (congrArg (turned _) (funext fun d => ?_)) d
  exact Finset.sum_congr rfl fun k _ => congrArg (· * _) (second_block0 m ρ c t r k)

theorem block_score (h1 : ∀ i, IsReal (inputs m c i)) (h4 : ∀ i, IsReal (wk m c i)) (t : Fin cfg1.N) (p : ℕ) (hp : 2 ^ p ≤ 1024)
    (r : Fin 256) (i : Fin (2 ^ p)) :
    score (firstKeys (2 ^ p) hp (iblk1 (V2 m ρ) c 2 t)) (blockQueries m ρ c t) (k1_pay1247 (iblk1 (V2 m ρ) c 3 t)) r i =
      plainScore (hidden m c) (inputs m c) (wq m c) (wk m c) (gain m c) (shift m c) (ww m c) (queryOf t r) (keyOf t (i.castLE hp)) := by
  rw [score_apply]
  unfold plainScore
  refine congrArg (· * _) (Finset.sum_congr rfl fun h _ => congrArg₂ (· * ·) ?_ (congrArg (max · 0) (Finset.sum_congr rfl fun d _ =>
    congrArg₂ (· * ·) (blockQueries_apply m ρ c t r h d) (second_block2 m ρ c h1 h4 t _ d))))
  exact (headRows_apply _ h r).trans (second_block3 m ρ c t r h)

/-- The arguments the scores depend on are real. -/
def Finite : Prop :=
  (∀ i, IsReal (hidden m c i)) ∧ (∀ i, IsReal (inputs m c i)) ∧ (∀ i, IsReal (wq m c i)) ∧ (∀ i, IsReal (wk m c i)) ∧
    (∀ d, IsReal (gain m c d)) ∧ (∀ d, IsReal (shift m c d)) ∧ (∀ i, IsReal (ww m c i))

/-- What a block writes, when it looks at the first `2 ^ p` keys and they reach its last query. -/
theorem block_row (hf : Finite m c) (t : Fin cfg1.N) (p : ℕ) (hp : 2 ^ p ≤ 1024) (hp' : 2 ^ p ≤ 2048) (ha : 256 * (t.val % 4) + 256 ≤ 2 ^ p)
    (r : Fin 256) (w : Fin 2048) :
    emitValues p (firstKeys (2 ^ p) hp (iblk1 (V2 m ρ) c 2 t)) (blockQueries m ρ c t) (k1_pay1247 (iblk1 (V2 m ρ) c 3 t)) masked
        (placeBase (grid1.coords t)) hp' (ix2 r w) = row m c (queryOf t r) (taken (row m c (queryOf t r)) w)
      ∧ emitRows p (firstKeys (2 ^ p) hp (iblk1 (V2 m ρ) c 2 t)) (blockQueries m ρ c t) (k1_pay1247 (iblk1 (V2 m ρ) c 3 t)) masked
        (placeBase (grid1.coords t)) (segmentBase (grid1.coords t)) hp' (ix2 r w) =
          BitVec.ofNat 32 (taken (row m c (queryOf t r)) w).val := by
  obtain ⟨h0, h1, h3, h4, hg, hb, h7⟩ := hf
  have ht := second_points t
  have hr := r.isLt
  rw [masked_eq, place_base, segment_base]
  have hT : (queryOf t r).val = 256 * t.val + r.val := rfl
  refine emit_row _ _ _ _ _ hp' ((Nat.pow_le_pow_iff_right (by decide : 1 < 2)).mp (hp.trans (by decide : 1024 ≤ 2 ^ 31))) r
    (by omega) (by omega) (fun i _ => ?_) (row m c (queryOf t r)) (fun s i hs hi => ?_) (fun s hs => ?_) w
  · rw [block_score m ρ c h1 h4]
    obtain ⟨z, hz⟩ := plainScore_real (hidden m c) (inputs m c) (wq m c) (wk m c) (gain m c) (shift m c) (ww m c) h0 h1 h3 h4 hg hb h7
      (queryOf t r) (keyOf t (i.castLE hp))
    rw [hz]
    exact EReal.coe_ne_bot z
  · rw [block_score m ρ c h1 h4]
    have e : s = keyOf t (i.castLE hp) := Fin.ext hs
    unfold row plainRow
    rw [if_pos (by rw [hT]; omega), e]
  · unfold row plainRow
    rw [if_neg (by rw [hT]; omega)]

/-! ## The arrays -/

/-- Every token's scores, largest first. -/
def sortedScores : S4096x2048.Idx → EReal := fun i => row m c (i 0) (taken (row m c (i 0)) (i 1))

/-- The numbers of their keys. -/
def sortedKeys : S4096x2048.Idx → BitVec 32 := fun i => BitVec.ofNat 32 (taken (row m c (i 0)) (i 1)).val

theorem block_after (hf : Finite m c) (t : Fin cfg1.N) (r : Fin 256) (w : Fin 2048) :
    ((outsAt1 (V2 m ρ) c t.val t.isLt).1 : S256x2048.Idx → EReal) (ix2 r w) = sortedScores m c (ix2 (queryOf t r) w)
      ∧ ((outsAt1 (V2 m ρ) c t.val t.isLt).2 : S256x2048.Idx → BitVec 32) (ix2 r w) = sortedKeys m c (ix2 (queryOf t r) w) := by
  by_cases c0 : t.val % 4 = 0
  · rw [outsAt1_A (V2 m ρ) c t c0 (by omega) (by omega)]
    dsimp only
    rw [values_A, rows_A]
    exact block_row m ρ c hf t 8 (by decide) (by decide) (by omega) r w
  by_cases c1 : t.val % 4 = 1
  · rw [outsAt1_B (V2 m ρ) c t c0 c1 (by omega)]
    dsimp only
    rw [values_B, rows_B]
    exact block_row m ρ c hf t 9 (by decide) (by decide) (by omega) r w
  · rw [outsAt1_C (V2 m ρ) c t c0 c1 (by omega)]
    dsimp only
    rw [values_C, rows_C]
    exact block_row m ρ c hf t 10 (by decide) (by decide) (by omega) r w

theorem scores_flushed (hf : Finite m c) (t : Fin cfg1.N) :
    (dat1 (V2 m ρ) c).flushed 6 t = ((cfg1.win 6).blk t).view.read (Elt Ideal) (sortedScores m c) := by
  show (cfg1.win 6).cut (cfg1.grid.coords t) ((dat1 (V2 m ρ) c).after 6 t) = _
  rw [after1_6]
  funext j
  show ((outsAt1 (V2 m ρ) c t.val t.isLt).1 : S256x2048.Idx → EReal) j = sortedScores m c (((cfg1.win 6).blk t).view.emb j)
  rw [second_block6]
  obtain ⟨r, w, rfl⟩ : ∃ (r : Fin 256) (w : Fin 2048), j = (ix2 r w : S256x2048.Idx) := ⟨j 0, j 1, eq_ix2 j⟩
  exact (block_after m ρ c hf t r w).1

theorem numbers_flushed (hf : Finite m c) (t : Fin cfg1.N) :
    (dat1 (V2 m ρ) c).flushed 7 t = ((cfg1.win 7).blk t).view.read (Elt Ideal) (sortedKeys m c) := by
  show (cfg1.win 7).cut (cfg1.grid.coords t) ((dat1 (V2 m ρ) c).after 7 t) = _
  rw [after1_7]
  funext j
  show ((outsAt1 (V2 m ρ) c t.val t.isLt).2 : S256x2048.Idx → BitVec 32) j = sortedKeys m c (((cfg1.win 7).blk t).view.emb j)
  rw [second_block7]
  obtain ⟨r, w, rfl⟩ : ∃ (r : Fin 256) (w : Fin 2048), j = (ix2 r w : S256x2048.Idx) := ⟨j 0, j 1, eq_ix2 j⟩
  exact (block_after m ρ c hf t r w).2

/-- Every token is in some block. -/
theorem in_block (i : S4096x2048.Idx) : ∃ (t : Fin cfg1.N) (r : Fin 256), (ix2 (queryOf t r) (i 1) : S4096x2048.Idx) = i := by
  have hi : (i 0).val < 4096 := (i 0).isLt
  have ht : (i 0).val / 256 < cfg1.N := Nat.lt_of_lt_of_le (by omega : (i 0).val / 256 < 16) (by decide +kernel)
  refine ⟨⟨(i 0).val / 256, ht⟩, ⟨(i 0).val % 256, by omega⟩,
    (congrArg (fun z : Fin 4096 => (ix2 z (i 1) : S4096x2048.Idx)) (Fin.ext ?_)).trans (eq_ix2 i).symm⟩
  show 256 * ((i 0).val / 256) + (i 0).val % 256 = (i 0).val
  omega

theorem scores_cover (i : S4096x2048.Idx) :
    ∃ t : Fin cfg1.N, (cfg1.win 6).flush t = true ∧ i ∈ ((cfg1.win 6).blk t).view.set := by
  obtain ⟨t, r, e⟩ := in_block i
  have h := ((cfg1.win 6).blk t).view.emb_mem_set (ix2 r (i 1) : S256x2048.Idx)
  rw [second_block6] at h
  exact ⟨t, flush1_6 t, Eq.mp (congrArg (fun z : S4096x2048.Idx => z ∈ ((cfg1.win 6).blk t).view.set) e) h⟩

theorem numbers_cover (i : S4096x2048.Idx) :
    ∃ t : Fin cfg1.N, (cfg1.win 7).flush t = true ∧ i ∈ ((cfg1.win 7).blk t).view.set := by
  obtain ⟨t, r, e⟩ := in_block i
  have h := ((cfg1.win 7).blk t).view.emb_mem_set (ix2 r (i 1) : S256x2048.Idx)
  rw [second_block7] at h
  exact ⟨t, flush1_7 t, Eq.mp (congrArg (fun z : S4096x2048.Idx => z ∈ ((cfg1.win 7).blk t).view.set) e) h⟩

/-- After the second kernel the first result holds every token's scores, largest first. -/
theorem scores_array (hf : Finite m c) : W3 m ρ c (Proc.devRef .tc main_v27_0) = sortedScores m c :=
  (W3_arr m ρ c 6).trans
    ((dat1 (V2 m ρ) c).arrAt_eq_of_cover 6 (sortedScores m c) (fun t _ => scores_flushed m ρ c hf t) scores_cover)

/-- And the second the numbers of their keys. -/
theorem numbers_array (hf : Finite m c) : W3 m ρ c (Proc.devRef .tc main_v27_1) = sortedKeys m c :=
  (W3_arr m ρ c 7).trans
    ((dat1 (V2 m ρ) c).arrAt_eq_of_cover 7 (sortedKeys m c) (fun t _ => numbers_flushed m ρ c hf t) numbers_cover)

end Indexer
-- ==== Proof.Inputs.lean ====
/- What the precondition says of the inputs: every number is finite, and the four sequences are full. -/
module

public import proofs.«01_k».proof.Defs
public import proofs.«01_k».proof.Proof.SortArray

@[expose] public section

set_option maxRecDepth 16384

noncomputable section

namespace Indexer

open Idealize.ShloMosaic Idealize.ShloMosaic.ValueIdx Idealize.ShloMosaic.TcCoe Idealize.SL.Sem Cert.KernelIdeal

/-- The shape relations the precondition's broadcasts take. -/
theorem preFacts : Cert.Pre_four_full_sequences_of_finite_numbers.Facts where
  bcast_S_S4 := by decide
  bcast_S_S4096x1536 := by decide
  bcast_S_S4096x2048 := by decide
  bcast_S_S1536x4096 := by decide
  bcast_S_S2048x128 := by decide
  bcast_S_S128 := by decide
  bcast_S_S2048x32 := by decide

/-- The largest float is a real. -/
theorem largest_real : IsReal (Ideal.ofBits .f32 0x7F7FFFFF#32) := by
  simp [IsReal, Ideal.ofBits, Ideal.ieee, -EReal.coe_mul]

/-- A number whose absolute value is at most a real is a real. -/
theorem real_of_abs_le {x b : EReal} (hb : IsReal b) (h : max x (-x) ≤ b) : IsReal x := by
  obtain ⟨r, rfl⟩ := hb
  have hx := (le_max_left _ _).trans h
  have hn := (le_max_right _ _).trans h
  induction x with
  | bot => exact absurd hn (by simp)
  | top => exact absurd hx (by simp)
  | coe y => exact ⟨y, rfl⟩

/-- An array whose absolute values compare at most the largest float, everywhere, holds reals. -/
theorem real_of_bounded {T : Shape} (x : FVec Ideal T .f32) (h : (⟨0, ![]⟩ : Shape).BroadcastsInDim T ![])
    (e : cmpf .ole (Host.absf x) (broadcastInDim T ![] h (constant (F := Ideal) ⟨0, ![]⟩ .f32 0x7F7FFFFF#32)) = fun _ => 1#1) (i : T.Idx) :
    IsReal (x i) := by
  have e' := congrFun e i
  rw [cmpf_apply, broadcastInDim_scalar_apply] at e'
  refine real_of_abs_le largest_real ?_
  by_contra hlt
  exact absurd e' (by
    show ¬ (Ideal.cmp .ole (max (x i) (-(x i))) (Ideal.ofBits .f32 0x7F7FFFFF#32) = 1#1)
    simp [Ideal.cmp, hlt])

/-- An array of words that compare equal to a constant, everywhere, is that constant. -/
theorem word_of_compared {T : Shape} (x : IVec T 32) (k : BitVec 32) (h : (⟨0, ![]⟩ : Shape).BroadcastsInDim T ![])
    (e : cmpi .eq x (broadcastInDim T ![] h (constantI ⟨0, ![]⟩ 32 k)) = fun _ => 1#1) : x = fun _ => k := by
  funext i
  have e' : BitVec.ofBool (x i == k) = 1#1 := congrFun e i
  cases hb : (x i == k) with
  | true => exact eq_of_beq hb
  | false => rw [hb] at e'; exact absurd e' (by decide)

variable (m : (ℓ : Loc nD τ sig) → Buf (Elt Ideal) ℓ)

/-- The precondition makes every argument the scores depend on real. -/
theorem pre_finite (h : Cert.Pre_KernelIdeal_four_full_sequences_of_finite_numbers (hPre_four_full_sequences_of_finite_numbers := preFacts) m)
    (c : Dev nD) : Finite m c := by
  obtain ⟨-, h0, h1, h3, h4, h5, h6, h7⟩ := h c
  exact ⟨real_of_bounded _ _ h0, real_of_bounded _ _ h1, real_of_bounded _ _ h3, real_of_bounded _ _ h4,
    fun d => real_of_bounded _ _ h5 (ix1 d), fun d => real_of_bounded _ _ h6 (ix1 d), real_of_bounded _ _ h7⟩

/-- The precondition makes the four sequences full. -/
theorem pre_lengths (h : Cert.Pre_KernelIdeal_four_full_sequences_of_finite_numbers (hPre_four_full_sequences_of_finite_numbers := preFacts) m)
    (c : Dev nD) : m ((c : Thread nD τ).loc main_arg2) = lengths :=
  word_of_compared _ _ _ (h c).1

end Indexer

end
-- ==== Proof.KernelRun.lean ====
/- The kernel's run with its two results: the arrays the second call leaves, and what those are. -/
module

public import proofs.«01_k».proof.Proof.SortArray

@[expose] public section

set_option maxRecDepth 16384

noncomputable section

namespace Indexer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with each buffer that lives through it at the contents the last call leaves. -/
theorem kernel_ends : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- From finite inputs, every run of the kernel ends with the sorted scores and the numbers of their keys as its two
    results, and with its arguments unchanged. -/
theorem kernel_run (hf : ∀ c, Finite m c) :
    θ_run (defs (F := Ideal)) (onTc (τ := τ) (main (F := Ideal))) ⟨m, fun _ => 0, ρ⟩ (fun r => ∀ c : Dev nD,
      r.2.mem ((c.tc : Thread nD τ).loc main_v27_0) = sortedScores m c
      ∧ r.2.mem ((c.tc : Thread nD τ).loc main_v27_1) = sortedKeys m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v27_0 (by decide))).trans (scores_array m ρ c (hf c)),
     (h c _ (mem_uc main_v27_1 (by decide))).trans (numbers_array m ρ c (hf c)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (kernel_ends m ρ)

end Indexer

end
-- ==== Proof.Agree.lean ====
/- The reference's two results are the ones the kernel leaves. -/
module

public import proofs.«01_k».proof.Proof.Inputs
public import proofs.«01_k».proof.Proof.KernelRun
public import proofs.«01_k».proof.Proof.Gen.ReferenceIdeal.Run

@[expose] public section

set_option maxRecDepth 16384

noncomputable section

namespace Indexer

open Idealize.ShloMosaic Idealize.ShloMosaic.ValueIdx Idealize.ShloMosaic.TcCoe Idealize.SL.Sem Cert.ReferenceIdeal.Read

variable (m : (ℓ : Loc Cert.KernelIdeal.nD Cert.KernelIdeal.τ Cert.KernelIdeal.sig) → Buf (Elt Ideal) ℓ) (c : Dev Cert.KernelIdeal.nD)

/-- On the kernel's arguments, with the sequences full, the reference's values are the sorted scores. -/
theorem reference_scores : val_main_values (F := Ideal) (hidden m c) (inputs m c) lengths (wq m c) (wk m c)
    (m ((c : Thread Cert.KernelIdeal.nD Cert.KernelIdeal.τ).loc Cert.KernelIdeal.main_arg5))
    (m ((c : Thread Cert.KernelIdeal.nD Cert.KernelIdeal.τ).loc Cert.KernelIdeal.main_arg6)) (ww m c) = sortedScores m c := by
  funext i
  obtain ⟨t, w, rfl⟩ : ∃ t w, i = ix2 t w := ⟨_, _, eq_ix2 i⟩
  exact ref_values _ _ _ _ _ _ _ t w

/-- On the kernel's arguments, with the sequences full, the reference's places are the numbers of the sorted keys. -/
theorem reference_keys : val_main_indices (F := Ideal) (hidden m c) (inputs m c) lengths (wq m c) (wk m c)
    (m ((c : Thread Cert.KernelIdeal.nD Cert.KernelIdeal.τ).loc Cert.KernelIdeal.main_arg5))
    (m ((c : Thread Cert.KernelIdeal.nD Cert.KernelIdeal.τ).loc Cert.KernelIdeal.main_arg6)) (ww m c) = sortedKeys m c := by
  funext i
  obtain ⟨t, w, rfl⟩ : ∃ t w, i = ix2 t w := ⟨_, _, eq_ix2 i⟩
  exact ref_indices _ _ _ _ _ _ _ t w

/-- From four full sequences of finite numbers, the kernel and the reference end with the same two results: every
    token's scores in decreasing order, and the numbers of their keys. -/
theorem agree : Cert.algebraic_KernelIdeal_ReferenceIdeal_pre_four_full_sequences_of_finite_numbers
    (hKernelIdeal := Cert.KernelIdeal.Gen.facts) (hReferenceIdeal := Cert.ReferenceIdeal.Gen.facts)
    (hPre_four_full_sequences_of_finite_numbers := preFacts) := by
  intro m ρ m' ρ' hpre same
  refine ⟨fun c => sortedScores m c, fun c => sortedKeys m c, kernel_run m ρ (pre_finite m hpre), ?_⟩
  refine (θ_run Cert.ReferenceIdeal.defs _ _).mono (fun _ h c => ?_) (Cert.ReferenceIdeal.Value.run m' ρ')
  obtain ⟨a0, a1, a2, a3, a4, a5, a6, a7⟩ := same c
  obtain ⟨hv, hi, hargs⟩ := h c
  refine ⟨hv.trans ((val_main_values_eq m' c).trans ?_), hi.trans ((val_main_indices_eq m' c).trans ?_), hargs⟩
  · rw [a0, a1, a2, a3, a4, a5, a6, a7, pre_lengths m hpre c]
    exact reference_scores m c
  · rw [a0, a1, a2, a3, a4, a5, a6, a7, pre_lengths m hpre c]
    exact reference_keys m c

end Indexer

end
-- ==== Proof.lean ====
/- The certificate: the kernel and both readings of it run and change no argument, the reading over the extended reals
   keeps the kernel's operations, and over the extended reals the kernel and the reference compute the same two results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The reference runs from any memory, changes no argument and leaves every semaphore at zero: it has none. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Every claim of the statement. -/
theorem claim : Cert.Claim :=
  ⟨Cert.Kernel.Gen.facts, Cert.KernelIdeal.Gen.facts, Cert.ReferenceIdeal.Gen.facts, Indexer.preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "mask" .f32 0xF149F2CA#32 ⊥ rfl,
    Indexer.agree⟩

end Cert.Proof

end
